-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x1024 .bf16) (main_arg2 : FVec F S2x128x4x64 .bf16) (main_arg3 : FVec F S2x128x4x64 .bf16) (main_arg4 : FVec F S1024x512 .bf16) : IVec S2x128x512 1 × IVec S512x1024 1 × IVec S2x128x4x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S2x128x4x64 .f32 := (extf .f32 · bitsLt_bf16_f32) main_arg2
  let main_v9 : FVec F S2x128x4x64 .f32 := Host.absf main_v8
  let main_cst_1 : FVec F S_ .f32 := constant S_ .f32 0x7F800000#32
  let main_v10 : FVec F S2x128x4x64 .f32 := broadcastInDim S2x128x4x64 ![] bcast_S_S2x128x4x64 main_cst_1
  let main_v11 : IVec S2x128x4x64 1 := cmpf .olt main_v9 main_v10
  (main_v3, main_v7, main_v11)
-- ==== Pre_finite_scores_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S2x128x512 1 × IVec S512x1024 1 × IVec S2x128x16x64 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_v8 : FVec F S2x128x16x64 .f32 := (extf .f32 · bitsLt_bf16_f32) main_arg2
  let main_v9 : FVec F S2x128x16x64 .f32 := Host.absf main_v8
  let main_cst_1 : FVec F S_ .f32 := constant S_ .f32 0x7F800000#32
  let main_v10 : FVec F S2x128x16x64 .f32 := broadcastInDim S2x128x16x64 ![] bcast_S_S2x128x16x64 main_cst_1
  let main_v11 : IVec S2x128x16x64 1 := cmpf .olt main_v9 main_v10
  (main_v3, main_v7, main_v11)
-- ==== Kernel.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩
abbrev S512x256 : Shape := ⟨2, ![512, 256]⟩
abbrev S256x512 : Shape := ⟨2, ![256, 512]⟩
abbrev S8x32x512 : Shape := ⟨3, ![8, 32, 512]⟩
abbrev S16x32x512 : Shape := ⟨3, ![16, 32, 512]⟩
abbrev S16 : Shape := ⟨1, ![16]⟩
abbrev S128x128 : Shape := ⟨2, ![128, 128]⟩
abbrev S128x512 : Shape := ⟨2, ![128, 512]⟩
abbrev S128x256 : Shape := ⟨2, ![128, 256]⟩
abbrev S128x64 : Shape := ⟨2, ![128, 64]⟩
abbrev S1x128x1x64 : Shape := ⟨4, ![1, 128, 1, 64]⟩
abbrev S128 : Shape := ⟨1, ![128]⟩
abbrev S128x1 : Shape := ⟨2, ![128, 1]⟩
abbrev S32x512 : Shape := ⟨2, ![32, 512]⟩
abbrev S1x32x512 : Shape := ⟨3, ![1, 32, 512]⟩
abbrev S1 : Shape := ⟨1, ![1]⟩

abbrev nBuf : Space → Nat
  | .hbm => 35
  | .vmem => 9
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x4x64, .bf16⟩
  | .hbm, ⟨3, _⟩ => ⟨S2x128x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .bf16⟩
  | .hbm, ⟨21, _⟩ => ⟨S512x256, .bf16⟩
  | .hbm, ⟨22, _⟩ => ⟨S512x256, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S256x512, .bf16⟩
  | .hbm, ⟨32, _⟩ => ⟨S256x512, .bf16⟩
  | .hbm, ⟨33, _⟩ => ⟨S256x512, .bf16⟩
  | .hbm, ⟨34, _⟩ => ⟨S2x128x512, .bf16⟩
  | .local _ .vmem, ⟨0, _⟩ => ⟨S256x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S256x512, .bf16⟩
  | .local _ .vmem, ⟨6, _⟩ => ⟨S8x32x512, .bf16⟩
  | .local _ .vmem, ⟨7, _⟩ => ⟨S8x32x512, .bf16⟩
  | .local _ .vmem, ⟨8, _⟩ => ⟨S16x32x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_c_6 : Ref sig .tc := ⟨.hbm, 25, rfl⟩
abbrev main_v13 : Ref sig .tc := ⟨.hbm, 26, rfl⟩
abbrev main_c_7 : Ref sig .tc := ⟨.hbm, 27, rfl⟩
abbrev main_v14 : Ref sig .tc := ⟨.hbm, 28, rfl⟩
abbrev main_v15 : Ref sig .tc := ⟨.hbm, 29, rfl⟩
abbrev main_c_8 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_90 : BitVec 32 := 1#32
  let v160 : BitVec 32 := Scalar.muli v3 c1_i32_90
  let v161 : BitVec 32 := Scalar.addi c0_i32_91 v160
  v161.toNat
def k0_dev4 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_100 : BitVec 32 := 1#32
  let v170 : BitVec 32 := Scalar.muli v3 c1_i32_100
  let v171 : BitVec 32 := Scalar.addi c0_i32_101 v170
  v171.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_110 : BitVec 32 := 1#32
  let v180 : BitVec 32 := Scalar.muli v3 c1_i32_110
  let v181 : BitVec 32 := Scalar.addi c0_i32_111 v180
  v181.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_120 : BitVec 32 := 1#32
  let v190 : BitVec 32 := Scalar.muli v3 c1_i32_120
  let v191 : BitVec 32 := Scalar.addi c0_i32_121 v190
  v191.toNat
def k0_dev7 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_193 : BitVec 32 := 1#32
  let v295 : BitVec 32 := Scalar.muli v3 c1_i32_193
  let v296 : BitVec 32 := Scalar.addi c0_i32_194 v295
  v296.toNat
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_202 : BitVec 32 := 1#32
  let v305 : BitVec 32 := Scalar.muli v3 c1_i32_202
  let v306 : BitVec 32 := Scalar.addi c0_i32_203 v305
  v306.toNat
def k0_dev9 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_211 : BitVec 32 := 1#32
  let v315 : BitVec 32 := Scalar.muli v3 c1_i32_211
  let v316 : BitVec 32 := Scalar.addi c0_i32_212 v315
  v316.toNat
def k0_dev10 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_220 : BitVec 32 := 1#32
  let v325 : BitVec 32 := Scalar.muli v3 c1_i32_220
  let v326 : BitVec 32 := Scalar.addi c0_i32_221 v325
  v326.toNat
def k0_dev11 (d0 : Dev nD) : Nat :=
  let c0_i32_246 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_245 : BitVec 32 := 1#32
  let v359 : BitVec 32 := Scalar.muli v4 c1_i32_245
  let v360 : BitVec 32 := Scalar.addi c0_i32_246 v359
  v360.toNat
def k0_dev12 (d0 : Dev nD) : Nat :=
  let c0_i32_271 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_270 : BitVec 32 := 1#32
  let v385 : BitVec 32 := Scalar.muli v4 c1_i32_270
  let v386 : BitVec 32 := Scalar.addi c0_i32_271 v385
  v386.toNat
def k0_dev13 (d0 : Dev nD) : Nat :=
  let c0_i32_296 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_295 : BitVec 32 := 1#32
  let v411 : BitVec 32 := Scalar.muli v4 c1_i32_295
  let v412 : BitVec 32 := Scalar.addi c0_i32_296 v411
  v412.toNat
def k0_dev14 (d0 : Dev nD) : Nat :=
  let c0_i32_321 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_320 : BitVec 32 := 1#32
  let v437 : BitVec 32 := Scalar.muli v4 c1_i32_320
  let v438 : BitVec 32 := Scalar.addi c0_i32_321 v437
  v438.toNat
def k0_dev15 (d0 : Dev nD) : Nat :=
  let c0_i32_346 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_345 : BitVec 32 := 1#32
  let v463 : BitVec 32 := Scalar.muli v4 c1_i32_345
  let v464 : BitVec 32 := Scalar.addi c0_i32_346 v463
  v464.toNat
def k0_dev16 (d0 : Dev nD) : Nat :=
  let c0_i32_371 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_370 : BitVec 32 := 1#32
  let v489 : BitVec 32 := Scalar.muli v4 c1_i32_370
  let v490 : BitVec 32 := Scalar.addi c0_i32_371 v489
  v490.toNat
def k0_dev17 (d0 : Dev nD) : Nat :=
  let c0_i32_396 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_395 : BitVec 32 := 1#32
  let v515 : BitVec 32 := Scalar.muli v4 c1_i32_395
  let v516 : BitVec 32 := Scalar.addi c0_i32_396 v515
  v516.toNat
def k0_dev18 (d0 : Dev nD) : Nat :=
  let c0_i32_421 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_420 : BitVec 32 := 1#32
  let v541 : BitVec 32 := Scalar.muli v4 c1_i32_420
  let v542 : BitVec 32 := Scalar.addi c0_i32_421 v541
  v542.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S2x16x128x128, .f32⟩
  | .hbm, ⟨52, _⟩ => ⟨S2x16x128x128, .bf16⟩
  | .hbm, ⟨53, _⟩ => ⟨S2x16x128x128, .f32⟩
  | .hbm, ⟨54, _⟩ => ⟨S_, .f32⟩
  | .hbm, ⟨55, _⟩ => ⟨S2x16x128x128, .f32⟩
  | .hbm, ⟨56, _⟩ => ⟨S2x16x128x128, .f32⟩
  | .hbm, ⟨57, _⟩ => ⟨S1x1x128x128, .i1⟩
  | .hbm, ⟨58, _⟩ => ⟨S_, .f32⟩
  | .hbm, ⟨59, _⟩ => ⟨S_, .f32⟩
  | .hbm, ⟨60, _⟩ => ⟨S2x16x128x128, .i1⟩
  | .hbm, ⟨61, _⟩ => ⟨S2x16x128x128, .f32⟩
  | .hbm, ⟨62, _⟩ => ⟨S2x16x128x128, .f32⟩
  | .hbm, ⟨63, _⟩ => ⟨S_, .f32⟩
  | .hbm, ⟨64, _⟩ => ⟨S2x16x128, .f32⟩
  | .hbm, ⟨65, _⟩ => ⟨S2x16x128x1, .f32⟩
  | .hbm, ⟨66, _⟩ => ⟨S2x16x128x128, .f32⟩
  | .hbm, ⟨67, _⟩ => ⟨S2x16x128x128, .f32⟩
  | .hbm, ⟨68, _⟩ => ⟨S2x16x128x128, .f32⟩
  | .hbm, ⟨69, _⟩ => ⟨S_, .i1⟩
  | .hbm, ⟨70, _⟩ => ⟨S128, .i1⟩
  | .hbm, ⟨71, _⟩ => ⟨S1x1x128x1, .i1⟩
  | .hbm, ⟨72, _⟩ => ⟨S_, .f32⟩
  | .hbm, ⟨73, _⟩ => ⟨S2x16x128, .f32⟩
  | .hbm, ⟨74, _⟩ => ⟨S2x16x128x1, .f32⟩
  | .hbm, ⟨75, _⟩ => ⟨S_, .f32⟩
  | .hbm, ⟨76, _⟩ => ⟨S_, .f32⟩
  | .hbm, ⟨77, _⟩ => ⟨S2x16x128x1, .i1⟩
  | .hbm, ⟨78, _⟩ => ⟨S2x16x128x1, .f32⟩
  | .hbm, ⟨79, _⟩ => ⟨S2x16x128x1, .f32⟩
  | .hbm, ⟨80, _⟩ => ⟨S2x16x128x128, .f32⟩
  | .hbm, ⟨81, _⟩ => ⟨S2x16x128x128, .f32⟩
  | .hbm, ⟨82, _⟩ => ⟨S1x1x128x1, .i1⟩
  | .hbm, ⟨83, _⟩ => ⟨S_, .f32⟩
  | .hbm, ⟨84, _⟩ => ⟨S_, .f32⟩
  | .hbm, ⟨85, _⟩ => ⟨S2x16x128x128, .i1⟩
  | .hbm, ⟨86, _⟩ => ⟨S2x16x128x128, .f32⟩
  | .hbm, ⟨87, _⟩ => ⟨S2x16x128x128, .f32⟩
  | .hbm, ⟨88, _⟩ => ⟨S2x128x16x64, .f32⟩
  | .hbm, ⟨89, _⟩ => ⟨S2x16x64x128, .f32⟩
  | .hbm, ⟨90, _⟩ => ⟨S2x128x16x64, .f32⟩
  | .hbm, ⟨91, _⟩ => ⟨S2x128x1024, .f32⟩
  | .hbm, ⟨92, _⟩ => ⟨S1024x512, .f32⟩
  | .hbm, ⟨93, _⟩ => ⟨S2x128x512, .f32⟩
  | .hbm, ⟨94, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Pieces.lean ====
/-
# Buffers held in rectangular pieces

A device's scratch buffers are exchanged chunk by chunk, so the proof holds each of them as a family of pieces: one
rectangle of the buffer, owned outright, together with what the rectangle reads. This module states what a piece is,
how a load, a store and the receipt of a copy act on one, and how a whole buffer is cut into pieces and joined back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Writes
public import Idealize.ShloMosaic.Lib.Ring.FamCut

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost algebra: the pipeline library's rounds beside the exchange's own, whose duties are named by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## One piece -/

variable {s : Shape} {e : EltTy}

/-- Device `c` owns the rectangle `r` of the buffer `M` outright, and the rectangle reads `X`. -/
def piece (c : Dev nD) (M : Memref sig .tc .vmem s e) (r : Rect s) (X : r.shape.Idx → Elt F e) : sProp 𝕄 :=
  iprop(∃ f : Buf (Elt F) ((M.access r).loc (c : Thread nD τ)),
    ⌜(M.access r).read (Elt F) f = X⌝ ∗ ((M.access r).loc (c : Thread nD τ) ↦[(M.access r).set]{fullShare} f))

instance piece_storable (c : Dev nD) (M : Memref sig .tc .vmem s e) (r : Rect s) (X : r.shape.Idx → Elt F e) :
    BI.Storable (upEmb : UEmb _ 𝕄) (piece c M r X) := by unfold piece; infer_instance

/-- Device `c` owns the rectangle `r` of `M` outright, at contents not named. -/
def slot (c : Dev nD) (M : Memref sig .tc .vmem s e) (r : Rect s) : sProp 𝕄 :=
  iprop(∃ X : r.shape.Idx → Elt F e, piece c M r X)

instance slot_storable (c : Dev nD) (M : Memref sig .tc .vmem s e) (r : Rect s) :
    BI.Storable (upEmb : UEmb _ 𝕄) (slot (F := F) c M r) := by unfold slot; infer_instance

section Access

variable (c : Dev nD) {M : Memref sig .tc .vmem s e} {r : Rect s} {α : Type} {Q : α → sProp (MT nD τ sig Unit (Elt F) ℕ UU ℕ)}

/-- A load of exactly the piece continues at what the piece reads. -/
theorem piece_load {X : r.shape.Idx → Elt F e} {hl : M.view.LoadsAt r.toLoadRect}
    {k : (r.shape.Idx → Elt F e) → Prog (TpuEff nD τ sig (Elt F) Λ₀ .tc) α} :
    piece c M r X
      ⊢ iprop((piece c M r X -∗ wp frame (wpE (defs₀ (F := F)) 𝒱₀ (c : Thread nD τ) none) Set.univ (k X) Q)
        -∗ wp frame (wpE (defs₀ (F := F)) 𝒱₀ (c : Thread nD τ) none) Set.univ (.op (.load M r.toLoadRect hl) k) Q) := by
  unfold piece
  iintro ⟨%f, %hf, H⟩ Hk
  subst hf
  iapply (wp_load_rect (defs := defs₀ (F := F)) 𝒱₀ (c : Thread nD τ) none Set.univ (m := M) (r := r) (hl := hl) (k := k) (Q := Q)
    (S := (M.access r).set) (q := fullShare) (f := f) (Finset.Subset.refl _)) $$ H
  iintro H
  iapply Hk
  iexists f
  isplitr; · ipureintro; rfl
  iexact H

/-- An unmasked store over a slot leaves the piece reading what was stored. -/
theorem piece_store {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} {X : r.shape.Idx → Elt F e} :
    piece c M r X
      ⊢ iprop((piece c M r w -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  unfold piece
  iintro ⟨%f, %hf, H⟩ Hk
  iapply (wp_store (defs := defs₀ (F := F)) 𝒱₀ (c : Thread nD τ) none Set.univ (m := M) (r := r) (w := w) (Mk := Finset.univ) (hx := hx) (hm := hm)
    (k := k) (Q := Q) (S := (M.access r).set) (f := f) (Finset.Subset.refl _)) $$ H
  iintro H
  iapply Hk
  iexists (M.access r).write (Elt F) f w Finset.univ
  isplitr
  · ipureintro; exact View.read_write_univ _ _
  iexact H

end Access

/-! ## Cutting a whole buffer and joining it back -/

section Cut

variable (c : Dev nD) (M : Memref sig .tc .vmem s e) {B : Type} [Fintype B] [DecidableEq B] (R : B → Rect s)

/-- The elements of the buffer that lie in one rectangle of the family. -/
abbrev part (b : B) : Finset (Idx (M.view.loc (c : Thread nD τ))) := (M.access (R b)).set

variable (hd : ∀ b b', b ≠ b' → Disjoint (part c M R b) (part c M R b'))
  (hc : (Finset.univ.biUnion (part c M R)) = Finset.univ)

include hd hc in
/-- A whole buffer, at any contents, is cut into the pieces of a disjoint family of rectangles that covers it. -/
theorem cut (f : Buf (Elt F) (M.view.loc (c : Thread nD τ))) :
    (M.view.loc (c : Thread nD τ) ↦{fullShare} f : sProp 𝕄) ⊢ bigSep Finset.univ (fun b => slot (F := F) c M (R b)) := by
  rw [← hc, pointsTo_biUnion Finset.univ (part c M R) (fun b _ b' _ h => hd b b' h)]
  refine bigSep_mono fun b _ => ?_
  show (M.view.loc (c : Thread nD τ) ↦[part c M R b]{fullShare} f : sProp 𝕄) ⊢ slot (F := F) c M (R b)
  unfold slot piece
  iintro H
  iexists _; iexists f
  isplitr; · ipureintro; rfl
  iexact H

include hd hc in
/-- The pieces of a disjoint family of rectangles that covers the buffer join to the whole buffer, at contents under
    which every rectangle reads what its piece read. -/
theorem join (X : (b : B) → (R b).shape.Idx → Elt F e) (f₀ : Buf (Elt F) (M.view.loc (c : Thread nD τ))) :
    bigSep Finset.univ (fun b => piece c M (R b) (X b))
      ⊢ (iprop(∃ g : Buf (Elt F) (M.view.loc (c : Thread nD τ)), ⌜∀ b, (M.access (R b)).read (Elt F) g = X b⌝
          ∗ (M.view.loc (c : Thread nD τ) ↦{fullShare} g)) : sProp 𝕄) := by
  have : Nonempty (Buf (Elt F) (M.view.loc (c : Thread nD τ))) := ⟨f₀⟩
  unfold piece
  iintro H
  ihave H := (BI.bigSep_exists_pi Finset.univ (fun b (f : Buf (Elt F) (M.view.loc (c : Thread nD τ))) =>
    (iprop(⌜(M.access (R b)).read (Elt F) f = X b⌝ ∗ (M.view.loc (c : Thread nD τ) ↦[part c M R b]{fullShare} f)) : sProp 𝕄))) $$ H
  icases H with ⟨%fs, H⟩
  ihave H := (BI.bigSep_pure_sep Finset.univ (fun b => (M.access (R b)).read (Elt F) (fs b) = X b) (fun b => (M.view.loc (c : Thread nD τ) ↦[part c M R b]{fullShare} fs b : sProp 𝕄))) $$ H
  icases H with ⟨%hr, H⟩
  ihave H := (pointsTo_biUnion_join Finset.univ (part c M R) fs f₀ (fun b _ b' _ h => hd b b' h)) $$ H
  icases H with ⟨%g, %hg, H⟩
  rw [hc]
  iexists g
  isplitr
  · ipureintro
    intro b
    rw [← hr b (Finset.mem_univ b)]
    funext x
    rw [View.read_apply, View.read_apply, hg b (Finset.mem_univ b) _ (View.emb_mem_set _ _)]
  iexact H

end Cut

end Cert.KernelIdeal.Exchange

end
-- ==== Proof.Protocol.lean ====
/-
# The exchange protocol

Device `c` of the four talks to two partners: in the first phase to `c xor 1`, in the second to `3 - c`. Each phase sends
eight chunks; transfer `j` (of sixteen) has a send cell on the sender and a receive cell on the partner, and lands in slot
`j` of the partner's landing buffer. A barrier cell on every device opens the landing slots: each partner pays one unit and
hands over its eight slots. This module states the cells, the payloads (with the contents each transfer carries), what a
device owes, the levels that order the waits, and the rules for the transfers and their waits.
-/
module

public import proofs.«01_k».proof.Proof.Pieces

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The partners -/

set_option backward.proofsInPublic true in
/-- The partner of the first phase. -/
def p1 (c : Dev nD) : Dev nD := ⟨c.val ^^^ 1, Nat.xor_lt_two_pow (n := 2) c.isLt (by decide)⟩
set_option backward.proofsInPublic true in
/-- The partner of the second phase. -/
def p2 (c : Dev nD) : Dev nD := ⟨3 - c.val, by show 3 - c.val < 4; omega⟩
theorem p1_p1 (c : Dev nD) : p1 (p1 c) = c := by revert c; decide
theorem p2_p2 (c : Dev nD) : p2 (p2 c) = c := by revert c; decide

/-- The partner of transfer `j`. -/
def pt (j : Fin 16) (c : Dev nD) : Dev nD := if j.val < 8 then p1 c else p2 c
theorem pt_pt (j : Fin 16) (c : Dev nD) : pt j (pt j c) = c := by revert j c; decide

/-! ## Buffers, rectangles, semaphores, cells -/

/-- The send buffers of the two phases and the landing buffer. -/
abbrev bufA : Memref sig .tc .vmem S8x32x512 .bf16 := Memref.whole cc0_scratch0
abbrev bufB : Memref sig .tc .vmem S8x32x512 .bf16 := Memref.whole cc0_scratch1
abbrev comm : Memref sig .tc .vmem S16x32x512 .bf16 := Memref.whole cc0_scratch2

theorem inb8 (k : Fin 8) : ∀ a, (![k.val, 0, 0] : Fin 3 → Nat) a + S1x32x512.size a ≤ S8x32x512.size a := by revert k; decide
theorem inb16 (j : Fin 16) : ∀ a, (![j.val, 0, 0] : Fin 3 → Nat) a + S1x32x512.size a ≤ S16x32x512.size a := by revert j; decide

/-- Chunk `k` of a send buffer, slot `j` of the landing buffer. -/
abbrev r8 (k : Fin 8) : Rect S8x32x512 := Rect.unit (s := S8x32x512) ![k.val, 0, 0] S1x32x512.size (inb8 k)
abbrev r16 (j : Fin 16) : Rect S16x32x512 := Rect.unit (s := S16x32x512) ![j.val, 0, 0] S1x32x512.size (inb16 j)

set_option backward.proofsInPublic true in
/-- Transfer `j`'s send semaphore and receive semaphore. -/
def sS (j : Fin 16) : DmaSem sig := ⟨6 + j.val, by have := j.isLt; show 6 + j.val < 38; omega⟩
set_option backward.proofsInPublic true in
def rS (j : Fin 16) : DmaSem sig := ⟨22 + j.val, by have := j.isLt; show 22 + j.val < 38; omega⟩
abbrev barS : Sem sig := (SemArray.scalar (sig.barrier 0 rfl) : Sems sig S_).sem

abbrev barCell (c : Dev nD) : GSem nD τ sig := ((c : Thread nD τ), .reg barS)
abbrev sCell (c : Dev nD) (j : Fin 16) : GSem nD τ sig := ((c : Thread nD τ), .dma (sS j))
abbrev rCell (c : Dev nD) (j : Fin 16) : GSem nD τ sig := ((c : Thread nD τ), .dma (rS j))

/-- What one transfer credits its semaphores with. -/
abbrev N : ℕ := ((bufA.slice (r8 0) (fun _ => rfl)).squeeze S32x512 squeezes_S1x32x512_S32x512).view.dmaCredit
theorem N_pos : 0 < N := View.dmaCredit_pos _ (by decide)

/-! ## The schedule -/

/-- A chunk's contents. -/
abbrev Chunk (F : FTy → Type) : Type := S1x32x512.Idx → Elt F .bf16

section Sched

variable (V : Dev nD → Fin 16 → Chunk F)

/-- The source of transfer `j` on device `c`, reading what the transfer carries. -/
def srcPiece (c : Dev nD) (j : Fin 16) : sProp 𝕄 :=
  if h : j.val < 8 then piece c bufA (r8 ⟨j.val, h⟩) (V c j) else piece c bufB (r8 ⟨j.val - 8, by omega⟩) (V c j)

/-- Landing slot `j` of device `c`, reading what its partner sent. -/
def landed (c : Dev nD) (j : Fin 16) : sProp 𝕄 := piece c comm (r16 j) (V (pt j c) j)

/-- One landing slot as handed over: the slot and that its receive cell stands at the first round. -/
def openSlot (c : Dev nD) (j : Fin 16) : sProp 𝕄 := iprop(slot (F := F) c comm (r16 j) ∗ reached ER (rCell c j) 0)

/-- What the first-phase partner, and the second-phase partner, of device `c` hand over at `c`'s barrier: the eight slots
    that `c` sends into in that phase. -/
def barPay1 (c : Dev nD) : sProp 𝕄 := bigSep Finset.univ fun k : Fin 8 => openSlot (F := F) (p1 c) (Fin.castAdd 8 k)
def barPay2 (c : Dev nD) : sProp 𝕄 := bigSep Finset.univ fun k : Fin 8 => openSlot (F := F) (p2 c) (Fin.natAdd 8 k)

instance srcPiece_storable (c : Dev nD) (j : Fin 16) : BI.Storable (upEmb : UEmb _ 𝕄) (srcPiece V c j) := by
  unfold srcPiece; split <;> exact piece_storable _ _ _ _
instance landed_storable (c : Dev nD) (j : Fin 16) : BI.Storable (upEmb : UEmb _ 𝕄) (landed V c j) := by
  unfold landed; exact piece_storable _ _ _ _
instance openSlot_storable (c : Dev nD) (j : Fin 16) : BI.Storable (upEmb : UEmb _ 𝕄) (openSlot (F := F) c j) := by
  unfold openSlot; infer_instance
instance barPay1_storable (c : Dev nD) : BI.Storable (upEmb : UEmb _ 𝕄) (barPay1 (F := F) c) := by unfold barPay1; infer_instance
instance barPay2_storable (c : Dev nD) : BI.Storable (upEmb : UEmb _ 𝕄) (barPay2 (F := F) c) := by unfold barPay2; infer_instance

/-- One round on every cell: a barrier cell's two units, paid by the two partners, and a transfer's credit on its send
    cell (the source back) and on its receive cell (the slot landed). -/
def Rd : Rounds.Schedule (GSem nD τ sig) Bool 𝕄 where
  duties g r := if r = 0 ∧ g.1.2 = .tc then
      (match g.2 with
        | .reg s => if s = barS then Finset.univ else ∅
        | .dma q => if 6 ≤ q.val then {false} else ∅)
    else ∅
  unitless _ := False
  amount g _ _ := match g.2 with
    | .reg _ => 1
    | .dma _ => N
  payload g _ d := match g.2 with
    | .reg _ => if d then barPay2 g.1.1 else barPay1 g.1.1
    | .dma q => if h : 6 ≤ q.val ∧ q.val < 22 then srcPiece V g.1.1 ⟨q.val - 6, by omega⟩
        else if h : 22 ≤ q.val ∧ q.val < 38 then landed V g.1.1 ⟨q.val - 22, by omega⟩ else iprop(emp)
  amount_pos g _ _ _ := by
    split
    · exact Nat.one_pos
    · exact N_pos

instance Rd_payload_storable (g : GSem nD τ sig) (r : ℕ) (d : Bool) :
    BI.Storable (upEmb : UEmb _ 𝕄) ((Rd V).payload g r d) := by
  dsimp only [Rd]
  (repeat' split) <;> infer_instance

variable (c : Dev nD)

theorem duties_bar : (Rd V).duties (barCell c) 0 = Finset.univ := by
  dsimp only [Rd]; rw [if_pos ⟨rfl, rfl⟩]; exact if_pos rfl
theorem duties_dma (q : DmaSem sig) (hq : 6 ≤ q.val) : (Rd V).duties ((c : Thread nD τ), .dma q) 0 = {false} := by
  dsimp only [Rd]; rw [if_pos ⟨rfl, rfl⟩]; exact if_pos hq
theorem duties_later (g : GSem nD τ sig) : ∀ r, 1 ≤ r → (Rd V).duties g r = ∅ :=
  fun r hr => by dsimp only [Rd]; rw [if_neg fun h => by omega]
theorem amount_bar (d : Bool) : (Rd V).amount (barCell c) 0 d = 1 := rfl
theorem amount_dma (q : DmaSem sig) (d : Bool) : (Rd V).amount ((c : Thread nD τ), .dma q) 0 d = N := rfl
theorem expect_bar : (Rd V).expect (barCell c) 0 = 2 := by
  unfold Schedule.expect Schedule.amountOf
  rw [duties_bar, Finset.sum_congr rfl fun d _ => amount_bar V c d, Finset.sum_const, Finset.card_univ, Fintype.card_bool, smul_eq_mul]
theorem expect_dma (q : DmaSem sig) (hq : 6 ≤ q.val) : (Rd V).expect ((c : Thread nD τ), .dma q) 0 = N := by
  unfold Schedule.expect Schedule.amountOf; rw [duties_dma V c q hq, Finset.sum_singleton, amount_dma]
theorem payload_bar1 : (Rd V).payload (barCell c) 0 false = barPay1 c := rfl
theorem payload_bar2 : (Rd V).payload (barCell c) 0 true = barPay2 c := rfl
theorem payload_send (j : Fin 16) (d : Bool) : (Rd V).payload (sCell c j) 0 d = srcPiece V c j := by
  have hj := j.isLt
  dsimp only [Rd]
  rw [dif_pos (show 6 ≤ (sS j).val ∧ (sS j).val < 22 from ⟨by simp [sS], by simp [sS]; omega⟩)]
  congr 1
  exact Fin.ext (by simp [sS])
theorem payload_recv (j : Fin 16) (d : Bool) : (Rd V).payload (rCell c j) 0 d = landed V c j := by
  have hj := j.isLt
  dsimp only [Rd]
  rw [dif_neg (show ¬ (6 ≤ (rS j).val ∧ (rS j).val < 22) by simp [rS]), dif_pos (show 22 ≤ (rS j).val ∧ (rS j).val < 38 from ⟨by simp [rS], by simp [rS]; omega⟩)]
  congr 1
  exact Fin.ext (by simp [rS])
theorem rest_bar : bigSep ((Rd V).duties (barCell c) 0 \ ∅) (fun d => (Rd V).payload (barCell c) 0 d) = iprop(barPay1 (F := F) c ∗ barPay2 (F := F) c) := by
  rw [Finset.sdiff_empty, duties_bar, bigSep_univ_eq_bigSepL [false, true] (by decide) (by decide), bigSepL_cons_cons, bigSepL_singleton,
    payload_bar1, payload_bar2]
  rfl
theorem rest_dma (q : DmaSem sig) (hq : 6 ≤ q.val) :
    bigSep ((Rd V).duties ((c : Thread nD τ), .dma q) 0 \ ∅) (fun d => (Rd V).payload ((c : Thread nD τ), .dma q) 0 d)
      = (Rd V).payload ((c : Thread nD τ), .dma q) 0 false := by
  rw [Finset.sdiff_empty, duties_dma V c q hq, bigSep_singleton]

end Sched

/-! ## What a device owes, and the levels -/

/-- What device `c` still owes once its first `n` transfers have been started: the credit of every later one. -/
def Orem (c : Dev nD) (n : ℕ) : CellTallies nD τ sig Unit :=
  ∑ j ∈ (Finset.univ : Finset (Fin 16)).filter (fun j => n ≤ j.val), tallyAt (rCell (pt j c) j) () N
/-- At launch a device owes its sixteen transfers and a unit to either partner's barrier. -/
def O₀ (c : Dev nD) : CellTallies nD τ sig Unit := Orem c 0 + tallyAt (barCell (p2 c)) () 1 + tallyAt (barCell (p1 c)) () 1

theorem Orem_step (c : Dev nD) (j : Fin 16) : Orem c j.val = Orem c (j.val + 1) + tallyAt (rCell (pt j c) j) () N := by
  unfold Orem
  have : (Finset.univ : Finset (Fin 16)).filter (fun i => j.val ≤ i.val) = insert j ((Finset.univ : Finset (Fin 16)).filter (fun i => j.val + 1 ≤ i.val)) := by
    ext i; simp only [Finset.mem_filter, Finset.mem_univ, true_and, Finset.mem_insert, Fin.ext_iff]; omega
  rw [this, Finset.sum_insert (by simp), add_comm]
theorem Orem_last (c : Dev nD) : Orem c 16 = 0 := by
  unfold Orem
  rw [Finset.filter_false_of_mem (fun j _ => by have := j.isLt; omega), Finset.sum_empty]

def L (g : GSem nD τ sig) : Finset Unit := if g.1.2 = .tc then {()} else ∅
/-- A barrier is below the first phase's receive cells, and those below the second phase's; the rest are lowest. -/
def lv (g : GSem nD τ sig) (_ : Unit) : ℕ := match g.2 with
  | .reg _ => 1
  | .dma q => if 30 ≤ q.val then 3 else if 22 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem Orem_pos {c : Dev nD} {n : ℕ} {g : GSem nD τ sig} {u : Unit} (h : 0 < Orem c n g u) : ∃ j : Fin 16, n ≤ j.val ∧ g = rCell (pt j c) j := by
  by_contra hn
  have hz : Orem c n g u = 0 := by
    unfold Orem
    rw [Finset.sum_apply, Finsupp.finset_sum_apply]
    refine Finset.sum_eq_zero fun j hj => ?_
    rw [tallyAt_apply, if_neg (fun h' => hn ⟨j, (Finset.mem_filter.mp hj).2, h'.1⟩)]
  omega

theorem lv_recv (c : Dev nD) (j : Fin 16) : lv (rCell c j) () = if j.val < 8 then 2 else 3 := by
  have := j.isLt
  unfold lv
  by_cases h : j.val < 8 <;> simp [rS, h] <;> omega

theorem O₀_pos {c : Dev nD} {g : GSem nD τ sig} {u : Unit} (h : 0 < O₀ c g u) :
    (∃ j : Fin 16, g = rCell (pt j c) j) ∨ g = barCell (p2 c) ∨ g = barCell (p1 c) := by
  unfold O₀ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  simp only [Nat.add_zero] at h
  obtain ⟨j, -, hj⟩ := Orem_pos h
  exact h1 ⟨j, hj⟩

/-- A device may wait on a cell that lies below every transfer it still owes. -/
theorem mayWait (c : Dev nD) (s : SemLoc sig) (n b : ℕ) (h1 : lv ((c : Thread nD τ), s) () ≤ b)
    (h2 : ∀ j : Fin 16, n ≤ j.val → b < if j.val < 8 then 2 else 3) :
    (levAts L lv : sProp 𝕄) ⊢ MayWait (c : Thread nD τ) s () (Orem c n) :=
  MayOwe.of_cut (L := L) (lev := lv) b (fun p hp => by rw [Finset.mem_singleton.mp hp, L_tc]; exact Finset.mem_singleton_self _)
    (fun g u hg => by obtain ⟨j, -, rfl⟩ := Orem_pos hg; exact Finset.mem_singleton_self _)
    (fun p hp => by rw [Finset.mem_singleton.mp hp]; exact h1)
    (fun g u hg => by obtain ⟨j, hj, rfl⟩ := Orem_pos hg; show b < lv (rCell (pt j c) j) (); rw [lv_recv]; exact h2 j hj)

/-! ## What every device knows -/

set_option backward.proofsInPublic true in
/-- The own scoped semaphores of the kernel: the sixteen send ones, then the sixteen receive ones. -/
def osem (i : Fin 32) : SemLoc sig := .dma ⟨6 + i.val, by have := i.isLt; show 6 + i.val < 38; omega⟩

def barEmb : Dev nD ↪ GSem nD τ sig := ⟨barCell, fun a b h => congrArg (fun g : GSem nD τ sig => g.1.1) h⟩
def scEmb : Dev nD × Fin 32 ↪ GSem nD τ sig :=
  ⟨fun ci => ((ci.1 : Thread nD τ), osem ci.2), fun a b h => by
    refine Prod.ext (congrArg (fun g : GSem nD τ sig => g.1.1) h) (Fin.ext ?_)
    have h2 : osem a.2 = osem b.2 := congrArg (fun g : GSem nD τ sig => g.2) h
    have h3 := Fin.ext_iff.mp (SemLoc.dma.inj h2)
    simpa using h3⟩
def barCells : Finset (GSem nD τ sig) := Finset.univ.map barEmb
def scCells : Finset (GSem nD τ sig) := Finset.univ.map scEmb

theorem barCell_mem (c : Dev nD) : barCell c ∈ barCells := Finset.mem_map.mpr ⟨c, Finset.mem_univ _, rfl⟩
theorem sCell_mem (c : Dev nD) (j : Fin 16) : sCell c j ∈ scCells :=
  Finset.mem_map.mpr ⟨(c, ⟨j.val, by omega⟩), Finset.mem_univ _, rfl⟩
theorem rCell_mem (c : Dev nD) (j : Fin 16) : rCell c j ∈ scCells :=
  Finset.mem_map.mpr ⟨(c, ⟨16 + j.val, by omega⟩), Finset.mem_univ _, Prod.ext rfl (congrArg SemLoc.dma (Fin.ext (show 6 + (16 + j.val) = 22 + j.val by omega)))⟩

section Rules

variable (V : Dev nD → Fin 16 → Chunk F) (K : GSem nD τ sig → ℕ)

/-- The cells' invariants at the names `K`, that every barrier stands at its first round, and the levels. -/
def known : sProp 𝕄 :=
  iprop(bigSep (barCells ∪ scCells) (fun g => cellInv ER (Rd V) (K g) g) ∗ bigSep barCells (fun g => reached ER g 0) ∗ levAts L lv)

instance known_persistent : BI.Persistent (known V K) := by unfold known; infer_instance

theorem known_bar (c : Dev nD) : known V K ⊢ cellInv ER (Rd V) (K (barCell c)) (barCell c) := by
  unfold known; iintro ⟨H, -, -⟩; iapply (show bigSep (barCells ∪ scCells) (fun g => cellInv ER (Rd V) (K g) g) ⊢ cellInv ER (Rd V) (K (barCell c)) (barCell c) from BI.bigSep_elim (Finset.mem_union_left _ (barCell_mem c))); iexact H
theorem known_sc (g : GSem nD τ sig) (hg : g ∈ scCells) : known V K ⊢ cellInv ER (Rd V) (K g) g := by
  unfold known; iintro ⟨H, -, -⟩; iapply (show bigSep (barCells ∪ scCells) (fun g => cellInv ER (Rd V) (K g) g) ⊢ cellInv ER (Rd V) (K g) g from BI.bigSep_elim (Finset.mem_union_right _ hg)); iexact H
theorem known_reached (c : Dev nD) : known V K ⊢ reached ER (barCell c) 0 := by
  unfold known; iintro ⟨-, H, -⟩; iapply (show bigSep barCells (fun g => (reached ER g 0 : sProp 𝕄)) ⊢ reached ER (barCell c) 0 from BI.bigSep_elim (barCell_mem c)); iexact H
theorem known_lev : known V K ⊢ (levAts L lv : sProp 𝕄) := by
  unfold known; iintro ⟨-, -, H⟩; iexact H

/-- Transfer `j`'s rights on device `c`: the duties on its own send cell and on the partner's receive cell. -/
def rights (c : Dev nD) (j : Fin 16) : sProp 𝕄 :=
  iprop(dutyTok ER (sCell c j) 0 false ∗ reached ER (sCell c j) 0 ∗ dutyTok ER (rCell (pt j c) j) 0 false)

/-- What device `c` owes after `n` transfers, whatever it has waited on. -/
def ow (c : Dev nD) (n : ℕ) : sProp 𝕄 := iprop(∃ W, owes (c : Thread nD τ) (Orem c n) W)

/-! ## The transfers -/

section Views

/-- A copy between two chunks taken with the unit axis dropped makes the chunk of the destination read what the chunk of
    the source reads. -/
theorem copied_read (v v' : View sig .tc .vmem S1x32x512 .bf16) (h h' : S32x512.numel = S1x32x512.numel)
    (fd : v'.ty.Contents (Elt F)) (fs : v.ty.Contents (Elt F)) :
    v'.read (Elt F) ((v'.reshape S32x512 h').write (Elt F) fd ((v.reshape S32x512 h).read (Elt F) fs) Finset.univ) = v.read (Elt F) fs := by
  rw [View.write_reshape_univ, View.read_write_univ]
  funext x
  rw [View.read_apply, View.read_apply]
  simp

/-- Dropping the unit axis of a chunk changes nothing about what is owned. -/
theorem squeezed_pts (d : Dev nD) (v : View sig .tc .vmem S1x32x512 .bf16) (h : S32x512.numel = S1x32x512.numel)
    (f : Buf (Elt F) (v.loc (d : Thread nD τ))) :
    (v.loc (d : Thread nD τ) ↦[v.set]{fullShare} f : sProp 𝕄)
      = ((v.reshape S32x512 h).loc (d : Thread nD τ) ↦[(v.reshape S32x512 h).set]{fullShare} f) := by
  rw [View.set_reshape]

end Views

section Send
variable (c n : Dev nD) (j : Fin 16) {A : Memref sig .tc .vmem S8x32x512 .bf16} {i : Fin 8}

set_option maxHeartbeats 1000000 in
/-- Starting transfer `j`: it takes the source chunk, the partner's slot, and the rights of the transfer; it leaves the
    credit to wait with, and one transfer less owed. -/
theorem wp_start (hn : n = pt j c) (hsrcP : srcPiece V c j = piece c A (r8 i) (V c j))
    {hsc : ((comm.slice (r16 j) (fun _ => rfl)).squeeze S32x512 squeezes_S1x32x512_S32x512 : Memref sig (Dev.tc n : Thread nD τ).2.kind .vmem S32x512 .bf16).view.ref.isScScratch = false}
    {hsrc : ((A.slice (r8 i) (fun _ => rfl)).squeeze S32x512 squeezes_S1x32x512_S32x512).view.WordExact}
    {hdst : ((comm.slice (r16 j) (fun _ => rfl)).squeeze S32x512 squeezes_S1x32x512_S32x512).view.WordExact}
    {hsem : DmaTarget.Typed .vmem (.dma (rS j)) (.remote (Dev.tc n : Thread nD τ) ((comm.slice (r16 j) (fun _ => rfl)).squeeze S32x512 squeezes_S1x32x512_S32x512) (.dma (sS j)) hsc)}
    {α : Type} {Q : α → sProp 𝕄} {k : PUnit → Prog (TpuEff nD τ sig (Elt F) Λ₀ .tc) α} :
    iprop(known V K ∗ piece c A (r8 i) (V c j) ∗ openSlot (F := F) (pt j c) j ∗ rights (F := F) c j ∗ ow (F := F) c j.val)
      ⊢ iprop(((cred (tallyAt (sCell c j) () N) ∗ ow (F := F) c (j.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((A.slice (r8 i) (fun _ => rfl)).squeeze S32x512 squeezes_S1x32x512_S32x512)
                (.remote (Dev.tc n : Thread nD τ) ((comm.slice (r16 j) (fun _ => rfl)).squeeze S32x512 squeezes_S1x32x512_S32x512) (.dma (sS j)) hsc)
                (.dma (rS j)) hsrc hdst hsem) k) Q) := by
  subst hn
  iintro ⟨#HK, Hs, Hd, Hr, HO⟩ Hk
  unfold piece openSlot slot piece rights ow
  icases Hs with ⟨%fs, %hfs, Hs⟩
  icases Hd with ⟨⟨%X, %fd, -, Hd⟩, #Hrd⟩
  icases Hr with ⟨Ht1, #Hr1, Ht2⟩
  icases HO with ⟨%W, HO⟩
  ihave #HI1 := (known_sc V K (sCell c j) (sCell_mem c j)) $$ HK
  ihave #HI2 := (known_sc V K (rCell (pt j c) j) (rCell_mem (pt j c) j)) $$ HK
  iapply (Rounds.wp_send_pointsTo 𝒱₀ ER (Rd V) (c : Thread nD τ) none (κ₁ := K (sCell c j)) (κ₂ := K (rCell (pt j c) j))
    (r₁ := 0) (r₂ := 0) (d₁ := false) (d₂ := false) (fs := fs) (fd := fd) (q := fullShare) (c' := (pt j c : Thread nD τ))
    (src := (A.slice (r8 i) (fun _ => rfl)).squeeze S32x512 squeezes_S1x32x512_S32x512)
    (dst := (comm.slice (r16 j) (fun _ => rfl)).squeeze S32x512 squeezes_S1x32x512_S32x512)
    (by rw [duties_dma V c (sS j) (by simp [sS])]; exact Finset.mem_singleton_self _)
    (by rw [duties_dma V (pt j c) (rS j) (by simp [rS]; omega)]; exact Finset.mem_singleton_self _)
    () () N rfl (amount_dma V c (sS j) false) (amount_dma V (pt j c) (rS j) false) (Orem c (j.val + 1)) (Orem_step c j) (W := W)
    (by
      rw [payload_send, hsrcP]; unfold piece
      iintro H; iexists fs
      isplitr; · ipureintro; exact hfs
      iapply (Entails.of_eq (squeezed_pts c (A.access (r8 i)) squeezes_S1x32x512_S32x512.numel_eq fs).symm); iexact H)
    (by
      rw [payload_recv]; unfold landed piece
      rw [pt_pt]
      iintro H
      iexists (((comm.slice (r16 j) (fun _ => rfl)).squeeze S32x512 squeezes_S1x32x512_S32x512).view.write (Elt F) fd (((A.slice (r8 i) (fun _ => rfl)).squeeze S32x512 squeezes_S1x32x512_S32x512).view.read (Elt F) fs) Finset.univ)
      isplitr; rotate_left
      · iapply (Entails.of_eq (squeezed_pts (pt j c) (comm.access (r16 j)) squeezes_S1x32x512_S32x512.numel_eq _).symm); iexact H
      · ipureintro; exact (copied_read (A.access (r8 i)) (comm.access (r16 j)) _ _ fd fs).trans hfs)) $$ [Hs Hd HO Ht1 Ht2]
  · isplitr; · iexact HI1
    isplitr; · iexact HI2
    isplitl [Hs]; · iapply (Entails.of_eq (squeezed_pts c (A.access (r8 i)) squeezes_S1x32x512_S32x512.numel_eq fs)); iexact Hs
    isplitl [Hd]; · iapply (Entails.of_eq (squeezed_pts (pt j c) (comm.access (r16 j)) squeezes_S1x32x512_S32x512.numel_eq fd)); iexact Hd
    isplitl [HO]; · iexact HO
    isplitl [Ht1]; · iexact Ht1
    isplitr; · iexact Hr1
    isplitl [Ht2]; · iexact Ht2
    iexact Hrd
  iintro ⟨Hc, HO⟩
  iapply Hk
  isplitl [Hc]; · iexact Hc
  iexists W; iexact HO

end Send

section Wait
variable (c : Dev nD) (n b : ℕ)

/-- A wait for a transfer's credit on one of the device's own cells: it gives back what the transfer paid there. -/
theorem wp_wait_dma (q : DmaSem sig) (hq : 6 ≤ q.val) (hmem : ((c : Thread nD τ), SemLoc.dma q) ∈ scCells) (h1 : lv ((c : Thread nD τ), .dma q) () ≤ b) (h2 : ∀ j : Fin 16, n ≤ j.val → b < if j.val < 8 then 2 else 3)
    {src dst : Memref sig .tc .vmem S32x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(known V K ∗ cred (tallyAt ((c : Thread nD τ), SemLoc.dma q) () N) ∗ atPos ER ((c : Thread nD τ), .dma q) 0 ∅ 0 ∗ ow (F := F) c n)
      ⊢ iprop(((ow (F := F) c n ∗ atPos ER ((c : Thread nD τ), .dma q) (0 + 1) ∅ 0
            ∗ (Rd V).payload ((c : Thread nD τ), .dma q) 0 false) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  unfold ow
  iintro ⟨#HK, Hc, Hat, ⟨%W, HO⟩⟩ Hk
  ihave #HI := (known_sc V K _ hmem) $$ HK
  ihave #Hl := (known_lev V K) $$ HK
  iapply (Rounds.wp_wait_rest_token 𝒱₀ ER (Rd V) (c : Thread nD τ) none (κ := K ((c : Thread nD τ), .dma q))
      (wpE_waitDma2_eq 𝒱₀ (c : Thread nD τ) none Set.univ) (Set.mem_univ _) () (O := Orem c n) (W := W) (R := 0) (m := 0) (T := ∅)
      (by rw [Nat.zero_add, hN, expect_dma V c q hq])) $$ [Hc HO Hat]
  · isplitr; · iexact HI
    isplitl [Hc]; · iexact Hc
    isplitl [HO]; · iexact HO
    isplitr; · iapply (mayWait c (.dma q) n b h1 h2); iexact Hl
    iexact Hat
  iintro ⟨HO, Hat, -, Hpay⟩
  iapply Hk
  isplitl [HO]; · iexists _; iexact HO
  isplitl [Hat]; · iexact Hat
  iapply (Entails.of_eq (rest_dma V c q hq)); iexact Hpay

end Wait

end Rules

end Cert.KernelIdeal.Exchange

end
-- ==== Proof.Values.lean ====
/-
# What each device computes

The values the kernel's memory operations carry, as functions of the five input blocks of each device: the block-causal
mask, a head's context, the half of the partial product for one batch row, its chunks of 32 rows, the chunks after the
first exchange and the result after the second. The named payloads of the program equal these by unfolding.
-/
module

public import proofs.«01_k».proof.Proof.Protocol

@[expose] public section

set_option maxRecDepth 16384

noncomputable section

namespace Cert.KernelIdeal.Exchange

open Cert.KernelIdeal Cert.KernelIdeal.Gen

open Idealize.ShloMosaic

variable {F : FTy → Type} [FloatOps F]

/-- The five blocks one device's body reads: rows, query weights, keys, values, output weights. -/
structure Inputs (F : FTy → Type) where
  x : S256x512.Idx → Elt F .bf16
  wq : S512x256.Idx → Elt F .bf16
  k : S2x128x4x64.Idx → Elt F .bf16
  v : S2x128x4x64.Idx → Elt F .bf16
  wo : S256x512.Idx → Elt F .bf16

/-- The entries of `X` in the rectangle `r`. -/
abbrev atR {s : Shape} {α : Type} (r : Rect s) (X : s.Idx → α) : r.shape.Idx → α := fun i => X (r.emb i)

theorem inbX (b : Fin 2) : ∀ a, (![128 * b.val, 0] : Fin 2 → Nat) a + S128x512.size a ≤ S256x512.size a := by revert b; decide
theorem inbKV (b : Fin 2) (h : Fin 4) : ∀ a, (![b.val, 0, h.val, 0] : Fin 4 → Nat) a + S1x128x1x64.size a ≤ S2x128x4x64.size a := by
  revert b h; decide
theorem inbO (k : Fin 8) : ∀ a, (![32 * k.val, 0] : Fin 2 → Nat) a + S32x512.size a ≤ S256x512.size a := by revert k; decide
theorem slicesH (h : Fin 4) : S128x256.Slices ![0, 64 * h.val] S128x64 := by revert h; decide
theorem slicesR (k : Fin 4) : S128x512.Slices ![32 * k.val, 0] S32x512 := by revert k; decide

/-- The 128 rows of batch row `b`. -/
abbrev rX (b : Fin 2) : Rect S256x512 := Rect.unit (s := S256x512) ![128 * b.val, 0] S128x512.size (inbX b)
/-- The keys or values of batch row `b` and head `h`. -/
abbrev rKV (b : Fin 2) (h : Fin 4) : Rect S2x128x4x64 := Rect.unit (s := S2x128x4x64) ![b.val, 0, h.val, 0] S1x128x1x64.size (inbKV b h)
/-- The `k`-th chunk of 32 rows of the result. -/
abbrev rO (k : Fin 8) : Rect S256x512 := Rect.unit (s := S256x512) ![32 * k.val, 0] S32x512.size (inbO k)

/-- The block-causal mask over (row, column): the column's block of 64 is not after the row's. -/
def mask : IVec S128x128 1 := k0_pay5 (iota .tc S128x128 32 [0] iota_S128x128_d0_w32) k0_pay3 k0_pay4

/-- The queries of batch row `b`, all four heads. -/
def qrows (I : Inputs F) (b : Fin 2) : FVec F S128x256 .bf16 := k0_pay21 (k0_pay1 I.wq) (atR (rX b) I.x)

/-- Head `h`'s columns of the queries. -/
def qhead (q : FVec F S128x256 .bf16) (h : Fin 4) : FVec F S128x64 .bf16 := extractStridedSlice S128x64 ![0, 64 * h.val] q (slicesH h)

/-- Head `h`'s context for batch row `b`: the masked exponential weights times the values, over their sum. -/
def ctx (I : Inputs F) (b : Fin 2) (h : Fin 4) : FVec F S128x64 .f32 :=
  k0_pay23 mask (qhead (qrows I b) h) (atR (rKV b h) I.k) (atR (rKV b h) I.v)

/-- The four contexts side by side, rounded. -/
def ctxs (I : Inputs F) (b : Fin 2) : FVec F S128x256 .bf16 :=
  truncf .bf16 (concatenate S128x256 1 [⟨S128x64, ctx I b 0⟩, ⟨S128x64, ctx I b 1⟩, ⟨S128x64, ctx I b 2⟩, ⟨S128x64, ctx I b 3⟩]
    concatenates_S128x64_S128x64_S128x64_S128x64_S128x256_d1) bitsLt_bf16_f32

/-- The device's share of the projected output for batch row `b`. -/
def half (I : Inputs F) (b : Fin 2) : FVec F S128x512 .f32 :=
  matmul dot_S128x256_S256x512_S128x512_1_0_0_1_n_n none (ctxs I b) (k0_pay2 I.wo) (constant S128x512 .f32 0x00000000#32)

/-- 32 rows of a share. -/
def rowsOf (p : FVec F S128x512 .f32) (k : Fin 4) : FVec F S32x512 .f32 := extractStridedSlice S32x512 ![32 * k.val, 0] p (slicesR k)

/-- A chunk as it is stored in a buffer slot: rounded. -/
def pack (w : FVec F S32x512 .f32) : Chunk F := shapeCast S1x32x512 (truncf .bf16 w bitsLt_bf16_f32) shapeCasts_S32x512_S1x32x512
/-- A buffer slot read back as a chunk. -/
def unpack (w : Chunk F) : FVec F S32x512 .f32 := extf .f32 (shapeCast S32x512 w shapeCasts_S1x32x512_S32x512) bitsLt_bf16_f32

/-- The device's own chunk `k` of eight. -/
def own (I : Inputs F) (k : Fin 8) : FVec F S32x512 .f32 := rowsOf (half I ⟨k.val / 4, by omega⟩) ⟨k.val % 4, by omega⟩

variable (I : Dev nD → Inputs F)

/-- Chunk `k` after the first exchange: the device's own plus what the first partner sent. -/
def sum1 (c : Dev nD) (k : Fin 8) : FVec F S32x512 .f32 := addf (own (I c) k) (unpack (pack (own (I (p1 c)) k)))

/-- What device `c` sends in transfer `j`. -/
def sent (c : Dev nD) (j : Fin 16) : Chunk F :=
  if h : j.val < 8 then pack (own (I c) ⟨j.val, h⟩) else pack (sum1 I c ⟨j.val - 8, by omega⟩)

/-- Chunk `k` of the result: after the second exchange, rounded. -/
def outC (c : Dev nD) (k : Fin 8) : FVec F S32x512 .bf16 :=
  truncf .bf16 (addf (sum1 I c k) (unpack (pack (sum1 I (p2 c) k)))) bitsLt_bf16_f32

/-! ## The program's payloads are these values -/

section Pays
variable (J : Inputs F)

theorem pay6_eq : k0_pay6 (k0_pay1 J.wq) (atR (rX 0) J.x) = qrows J 0 := rfl
theorem pay10_eq : k0_pay10 (F := F) mask (k0_pay7 (atR (rKV 0 0) J.v)) (k0_pay8 (k0_pay1 J.wq) (atR (rX 0) J.x) (atR (rKV 0 0) J.k)) k0_pay9 = ctx J 0 0 := rfl
theorem pay11_eq : k0_pay11 (F := F) mask (qrows J 0) (atR (rKV 0 1) J.k) (atR (rKV 0 1) J.v) = ctx J 0 1 := rfl
theorem pay15_eq : k0_pay15 (F := F) (k0_pay2 J.wo) mask (qrows J 0) (ctx J 0 0) (ctx J 0 1) (k0_pay12 (atR (rKV 0 2) J.v))
    (k0_pay13 (qrows J 0) (atR (rKV 0 2) J.k)) k0_pay14 (atR (rKV 0 3) J.k) (atR (rKV 0 3) J.v) = half J 0 := rfl
theorem pay16_eq : k0_pay16 (F := F) (k0_pay2 J.wo) mask (qrows J 0) (ctx J 0 0) (ctx J 0 1) (k0_pay12 (atR (rKV 0 2) J.v))
    (k0_pay13 (qrows J 0) (atR (rKV 0 2) J.k)) k0_pay14 (atR (rKV 0 3) J.k) (atR (rKV 0 3) J.v) = pack (own J 0) := rfl
theorem pay18_eq : k0_pay18 (k0_pay17 (F := F) (k0_pay2 J.wo) mask (qrows J 0) (ctx J 0 0) (ctx J 0 1) (k0_pay12 (atR (rKV 0 2) J.v))
    (k0_pay13 (qrows J 0) (atR (rKV 0 2) J.k)) k0_pay14 (atR (rKV 0 3) J.k) (atR (rKV 0 3) J.v)) = pack (own J 1) := rfl
theorem pay19_eq : k0_pay19 (half J 0) = pack (own J 2) := rfl
theorem pay20_eq : k0_pay20 (half J 0) = pack (own J 3) := rfl
theorem pay24_eq : k0_pay24 (F := F) mask (qrows J 1) (atR (rKV 1 1) J.k) (atR (rKV 1 1) J.v) = ctx J 1 1 := rfl
theorem pay26_eq : k0_pay26 (F := F) mask (qrows J 1) (ctx J 1 0) (ctx J 1 1) (k0_pay25 (qrows J 1)) (atR (rKV 1 2) J.k) (atR (rKV 1 2) J.v)
    (atR (rKV 1 3) J.k) (atR (rKV 1 3) J.v) = ctxs J 1 := rfl
theorem pay27_eq : k0_pay27 (k0_pay2 J.wo) (ctxs J 1) (constant S128x512 .f32 0x00000000#32) = half J 1 := rfl
theorem pay54_eq (c : Dev nD) : k0_pay54 (sum1 I c 7) = pack (sum1 I c 7) := rfl
theorem pay63_eq (c : Dev nD) : k0_pay63 (sum1 I c 7) (sent I (p2 c) 15) = outC I c 7 := rfl

end Pays

end Cert.KernelIdeal.Exchange

end
-- ==== Proof.Ops.lean ====
/-
# The body's operations as rules

One rule for every kind of memory operation the body performs, over the pieces of the buffers and the state of each
transfer: a load of an input window, a load and a store of a slot, the barrier, the start of a transfer, and the waits for
its arrival and for its departure.
-/
module

public import proofs.«01_k».proof.Proof.Values

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- An input's staging buffer, whole, at its contents. -/
def win (c : Dev nD) {s : Shape} {e : EltTy} (M : Memref sig .tc .vmem s e) (X : Buf (Elt F) (M.view.loc (c : Thread nD τ))) : sProp 𝕄 :=
  iprop(M.view.loc (c : Thread nD τ) ↦{fullShare} X)

/-- The receive side of transfer `j` before its arrival: the credit to wait with and the cell's position. -/
def rx (c : Dev nD) (j : Fin 16) : sProp 𝕄 := iprop(cred (tallyAt (rCell c j) () N) ∗ atPos ER (rCell c j) 0 ∅ 0)
/-- The send side of transfer `j` before it starts. -/
def tx (c : Dev nD) (j : Fin 16) : sProp 𝕄 := iprop(rights (F := F) c j ∗ atPos ER (sCell c j) 0 ∅ 0)
/-- The send side of transfer `j` under way. -/
def sx (c : Dev nD) (j : Fin 16) : sProp 𝕄 := iprop(cred (tallyAt (sCell c j) () N) ∗ atPos ER (sCell c j) 0 ∅ 0)
/-- The receive cell, and the send cell, of transfer `j` after its wait. -/
def rdone (c : Dev nD) (j : Fin 16) : sProp 𝕄 := atPos ER (rCell c j) (0 + 1) ∅ 0
def sdone (c : Dev nD) (j : Fin 16) : sProp 𝕄 := atPos ER (sCell c j) (0 + 1) ∅ 0

/-- Every chunk credits the same amount, whatever buffer it lies in. -/
theorem credit_comm (j : Fin 16) : ((comm.slice (r16 j) (fun _ => rfl)).squeeze S32x512 squeezes_S1x32x512_S32x512).view.dmaCredit = N := rfl
theorem credit_A (i : Fin 8) : ((bufA.slice (r8 i) (fun _ => rfl)).squeeze S32x512 squeezes_S1x32x512_S32x512).view.dmaCredit = N := rfl
theorem credit_B (i : Fin 8) : ((bufB.slice (r8 i) (fun _ => rfl)).squeeze S32x512 squeezes_S1x32x512_S32x512).view.dmaCredit = N := rfl

/-- A returned value under another name. -/
theorem wp_ret_as (c : Dev nD) {α : Type} {Q : α → sProp (MT nD τ sig Unit (Elt F) ℕ UU ℕ)} {a b : α} (h : a = b) :
    wp frame (wpE (defs₀ (F := F)) 𝒱₀ (c : Thread nD τ) none) Set.univ (.ret a) Q = iprop(|={Set.univ}[frame]=> Q b) := by rw [h, wp_ret]

section Access

variable (c : Dev nD) {s : Shape} {e : EltTy} {M : Memref sig .tc .vmem s e} {α : Type} {Q : α → sProp (MT nD τ sig Unit (Elt F) ℕ UU ℕ)}

/-- A load of a rectangle of an input window. -/
theorem win_load (r : Rect s) {X : Buf (Elt F) (M.view.loc (c : Thread nD τ))} (Y : r.shape.Idx → Elt F e) (hY : (M.access r).read (Elt F) X = Y)
    {hl : M.view.LoadsAt r.toLoadRect} {k : (r.shape.Idx → Elt F e) → Prog (TpuEff nD τ sig (Elt F) Λ₀ .tc) α} :
    win c M X
      ⊢ iprop((win c M X -∗ wp frame (wpE (defs₀ (F := F)) 𝒱₀ (c : Thread nD τ) none) Set.univ (k Y) Q)
        -∗ wp frame (wpE (defs₀ (F := F)) 𝒱₀ (c : Thread nD τ) none) Set.univ (.op (.load M r.toLoadRect hl) k) Q) := by
  subst hY
  unfold win
  iintro H Hk
  iapply (wp_load_rect (defs := defs₀ (F := F)) 𝒱₀ (c : Thread nD τ) none Set.univ (m := M) (r := r) (hl := hl) (k := k) (Q := Q)
    (S := Finset.univ) (q := fullShare) (f := X) (Finset.subset_univ _)) $$ H
  iintro H
  iapply Hk; iexact H

/-- A load of a slot whose contents the continuation does not look at. -/
theorem slot_load (r : Rect s) {hl : M.view.LoadsAt r.toLoadRect} {k : (r.shape.Idx → Elt F e) → Prog (TpuEff nD τ sig (Elt F) Λ₀ .tc) α}
    {P : Prog (TpuEff nD τ sig (Elt F) Λ₀ .tc) α} (hk : ∀ X, k X = P) :
    slot (F := F) c M r
      ⊢ iprop((slot (F := F) c M r -∗ wp frame (wpE (defs₀ (F := F)) 𝒱₀ (c : Thread nD τ) none) Set.univ P Q)
        -∗ wp frame (wpE (defs₀ (F := F)) 𝒱₀ (c : Thread nD τ) none) Set.univ (.op (.load M r.toLoadRect hl) k) Q) := by
  unfold slot
  iintro ⟨%X, H⟩ Hk
  iapply (piece_load c) $$ H
  iintro H
  rw [hk]
  iapply Hk; iexists X; iexact H

/-- A store into a slot makes it the piece with the stored contents. -/
theorem slot_store (r : Rect s) (Y : r.shape.Idx → Elt F e) {w : r.shape.Idx → Elt F e} (hY : w = Y) {hx : (M.access r).Stores Finset.univ}
    {hm : (Finset.univ : Finset r.shape.Idx) = Finset.univ ∨ ∀ a, r.stride a = 1} {k : PUnit → Prog (TpuEff nD τ sig (Elt F) Λ₀ .tc) α} :
    slot (F := F) c M r
      ⊢ iprop((piece c M r Y -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hY
  unfold slot
  iintro ⟨%X, H⟩ Hk
  iapply (piece_store c) $$ H
  iexact Hk

/-- A load of a piece whose contents are known under another name. -/
theorem piece_load_as (r : Rect s) {X : r.shape.Idx → Elt F e} (Y : r.shape.Idx → Elt F e) (hY : X = Y)
    {hl : M.view.LoadsAt r.toLoadRect} {k : (r.shape.Idx → Elt F e) → Prog (TpuEff nD τ sig (Elt F) Λ₀ .tc) α} :
    piece c M r X
      ⊢ iprop((piece c M r Y -∗ wp frame (wpE (defs₀ (F := F)) 𝒱₀ (c : Thread nD τ) none) Set.univ (k Y) Q)
        -∗ wp frame (wpE (defs₀ (F := F)) 𝒱₀ (c : Thread nD τ) none) Set.univ (.op (.load M r.toLoadRect hl) k) Q) := by
  subst hY
  exact piece_load c

end Access

/-- A send cell is at a level not above the receive cells'. -/
theorem lv_send (c : Dev nD) (j : Fin 16) : lv ((c : Thread nD τ), .dma (sS j)) () ≤ 3 := by
  show (if 30 ≤ (sS j).val then 3 else if 22 ≤ (sS j).val then 2 else 0) ≤ 3
  split_ifs <;> omega

section Rules

variable (V : Dev nD → Fin 16 → Chunk F) (K : GSem nD τ sig → ℕ) (c : Dev nD)
  {α : Type} {Q : α → sProp (MT nD τ sig Unit (Elt F) ℕ UU ℕ)} {k : PUnit → Prog (TpuEff nD τ sig (Elt F) Λ₀ .tc) α}

/-- The signal to the first partner's barrier: it hands over the eight slots of the first phase. -/
theorem wp_signal1 (n : Dev nD) (hn : n = p1 c) {u : ℤ} (hu : u = 1) :
    iprop(known V K ∗ dutyTok ER (barCell (p1 c)) 0 false ∗ (bigSep Finset.univ fun i : Fin 8 => openSlot (F := F) c (Fin.castAdd 8 i))
        ∗ ∃ W, owes (c : Thread nD τ) (O₀ c) W)
      ⊢ iprop(((∃ W, owes (c : Thread nD τ) (Orem c 0 + tallyAt (barCell (p2 c)) () 1) W) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((n, .tc) : Thread nD τ) barS u) k) Q) := by
  subst hn; subst hu
  iintro ⟨#HK, Htok, Hpay, ⟨%W, HO⟩⟩ Hk
  ihave #HI := (known_bar V K (p1 c)) $$ HK
  ihave #Hr := (known_reached V K (p1 c)) $$ HK
  iapply (Rounds.wp_signal 𝒱₀ ER (Rd V) (c : Thread nD τ) none (dst := (p1 c : Thread nD τ)) (κ := K (barCell (p1 c))) (d := false)
    (by rw [duties_bar]; exact Finset.mem_univ _) ((amount_bar V (p1 c) false).trans (by decide)) () (Orem c 0 + tallyAt (barCell (p2 c)) () 1) rfl) $$ [HO Htok Hpay]
  · isplitr; · iexact HI
    isplitl [HO]; · iexact HO
    isplitl [Htok]; · iexact Htok
    isplitl [Hpay]
    · rw [payload_bar1]; unfold barPay1; rw [p1_p1]; iexact Hpay
    iexact Hr
  iintro HO
  iapply Hk; iexists W; iexact HO

/-- The signal to the second partner's barrier: it hands over the eight slots of the second phase. -/
theorem wp_signal2 (n : Dev nD) (hn : n = p2 c) {u : ℤ} (hu : u = 1) :
    iprop(known V K ∗ dutyTok ER (barCell (p2 c)) 0 true ∗ (bigSep Finset.univ fun i : Fin 8 => openSlot (F := F) c (Fin.natAdd 8 i))
        ∗ ∃ W, owes (c : Thread nD τ) (Orem c 0 + tallyAt (barCell (p2 c)) () 1) W)
      ⊢ iprop((ow (F := F) c 0 -∗ wp frame (wpE (defs₀ (F := F)) 𝒱₀ (c : Thread nD τ) none) Set.univ (k ⟨⟩) Q)
        -∗ wp frame (wpE (defs₀ (F := F)) 𝒱₀ (c : Thread nD τ) none) Set.univ (.op (.semSignal ((n, .tc) : Thread nD τ) barS u) k) Q) := by
  subst hn; subst hu
  iintro ⟨#HK, Htok, Hpay, ⟨%W, HO⟩⟩ Hk
  ihave #HI := (known_bar V K (p2 c)) $$ HK
  ihave #Hr := (known_reached V K (p2 c)) $$ HK
  iapply (Rounds.wp_signal 𝒱₀ ER (Rd V) (c : Thread nD τ) none (dst := (p2 c : Thread nD τ)) (κ := K (barCell (p2 c))) (d := true)
    (by rw [duties_bar]; exact Finset.mem_univ _) ((amount_bar V (p2 c) true).trans (by decide)) () (Orem c 0) rfl) $$ [HO Htok Hpay]
  · isplitr; · iexact HI
    isplitl [HO]; · iexact HO
    isplitl [Htok]; · iexact Htok
    isplitl [Hpay]
    · rw [payload_bar2]; unfold barPay2; rw [p2_p2]; iexact Hpay
    iexact Hr
  iintro HO
  iapply Hk; unfold ow; iexists W; iexact HO

/-- The wait on the own barrier: it gives the partners' sixteen slots. -/
theorem wp_barrier {u : ℤ} (hu : u = 2) :
    iprop(known V K ∗ cred (tallyAt (barCell c) () 2) ∗ atPos ER (barCell c) 0 ∅ 0 ∗ ow (F := F) c 0)
      ⊢ iprop(((ow (F := F) c 0 ∗ atPos ER (barCell c) (0 + 1) ∅ 0 ∗ barPay1 (F := F) c ∗ barPay2 (F := F) c) -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS u) k) Q) := by
  subst hu
  unfold ow
  iintro ⟨#HK, Hc, Hat, ⟨%W, HO⟩⟩ Hk
  ihave #HI := (known_bar V K c) $$ HK
  ihave #Hl := (known_lev V K) $$ HK
  iapply (Rounds.wp_wait_rest_token 𝒱₀ ER (Rd V) (c : Thread nD τ) none (κ := K (barCell c))
      (wpE_semWait_eq 𝒱₀ (c : Thread nD τ) none Set.univ) (Set.mem_univ _) () (O := Orem c 0) (W := W) (R := 0) (m := 0) (T := ∅)
      (by rw [Nat.zero_add, expect_bar])) $$ [Hc HO Hat]
  · isplitr; · iexact HI
    isplitl [Hc]; · iexact Hc
    isplitl [HO]; · iexact HO
    isplitr; · iapply (mayWait c (.reg barS) 0 1 (le_of_eq rfl) (by decide)); iexact Hl
    iexact Hat
  iintro ⟨HO, Hat, -, Hpay⟩
  iapply Hk
  isplitl [HO]; · iexists _; iexact HO
  isplitl [Hat]; · iexact Hat
  iapply (Entails.of_eq (rest_bar V c)); iexact Hpay

/-- The start of transfer `j`: it takes the source chunk and the partner's slot. -/
theorem wp_go (n : Dev nD) (j : Fin 16) (i : Fin 8) {A : Memref sig .tc .vmem S8x32x512 .bf16} (hn : n = pt j c)
    (hsrcP : srcPiece V c j = piece c A (r8 i) (V c j))
    {hsc : ((comm.slice (r16 j) (fun _ => rfl)).squeeze S32x512 squeezes_S1x32x512_S32x512 : Memref sig (Dev.tc n : Thread nD τ).2.kind .vmem S32x512 .bf16).view.ref.isScScratch = false}
    {hsrc : ((A.slice (r8 i) (fun _ => rfl)).squeeze S32x512 squeezes_S1x32x512_S32x512).view.WordExact}
    {hdst : ((comm.slice (r16 j) (fun _ => rfl)).squeeze S32x512 squeezes_S1x32x512_S32x512).view.WordExact}
    {hsem : DmaTarget.Typed .vmem (.dma (rS j)) (.remote (Dev.tc n : Thread nD τ) ((comm.slice (r16 j) (fun _ => rfl)).squeeze S32x512 squeezes_S1x32x512_S32x512) (.dma (sS j)) hsc)} :
    iprop(known V K ∗ piece c A (r8 i) (V c j) ∗ openSlot (F := F) (pt j c) j ∗ tx (F := F) c j ∗ ow (F := F) c j.val)
      ⊢ iprop(((sx (F := F) c j ∗ ow (F := F) c (j.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((A.slice (r8 i) (fun _ => rfl)).squeeze S32x512 squeezes_S1x32x512_S32x512)
                (.remote (Dev.tc n : Thread nD τ) ((comm.slice (r16 j) (fun _ => rfl)).squeeze S32x512 squeezes_S1x32x512_S32x512) (.dma (sS j)) hsc)
                (.dma (rS j)) hsrc hdst hsem) k) Q) := by
  unfold tx sx
  iintro ⟨#HK, Hs, Hd, ⟨Hr, Hat⟩, HO⟩ Hk
  iapply (wp_start V K c n j hn hsrcP) $$ [Hs Hd Hr HO]
  · isplitr; · iexact HK
    isplitl [Hs]; · iexact Hs
    isplitl [Hd]; · iexact Hd
    isplitl [Hr]; · iexact Hr
    iexact HO
  iintro ⟨Hc, HO⟩
  iapply Hk
  isplitr [HO]
  · isplitl [Hc]; · iexact Hc
    iexact Hat
  iexact HO

section Waits

variable (j : Fin 16) {src : Memref sig .tc .vmem S32x512 .bf16} {hsrc : src.view.WordExact}

/-- The wait for transfer `j`'s arrival, after `n` starts: it gives the landed chunk. -/
theorem wp_recv (n : ℕ) (h2 : ∀ i : Fin 16, n ≤ i.val → (if j.val < 8 then 2 else 3) < if i.val < 8 then 2 else 3)
    {hdst : ((comm.slice (r16 j) (fun _ => rfl)).squeeze S32x512 squeezes_S1x32x512_S32x512).view.WordExact} :
    iprop(known V K ∗ rx (F := F) c j ∗ ow (F := F) c n)
      ⊢ iprop(((ow (F := F) c n ∗ rdone (F := F) c j ∗ piece c comm (r16 j) (V (pt j c) j)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (rS j) src ((comm.slice (r16 j) (fun _ => rfl)).squeeze S32x512 squeezes_S1x32x512_S32x512) hsrc hdst) k) Q) := by
  unfold rx rdone
  iintro ⟨#HK, ⟨Hc, Hat⟩, HO⟩ Hk
  iapply (wp_wait_dma V K c n (if j.val < 8 then 2 else 3) (rS j) (by simp [rS]; omega) (rCell_mem c j) (le_of_eq (lv_recv c j)) h2 (credit_comm j)) $$ [Hc Hat HO]
  · isplitr; · iexact HK
    isplitl [Hc]; · iexact Hc
    isplitl [Hat]; · iexact Hat
    iexact HO
  iintro ⟨HO, Hat, Hp⟩
  iapply Hk
  isplitl [HO]; · iexact HO
  isplitl [Hat]; · iexact Hat
  ihave Hp := (Entails.of_eq (payload_recv V c j false)) $$ Hp
  unfold landed; iexact Hp

/-- The wait for transfer `j`'s departure, after all the starts: it gives the source chunk back. -/
theorem wp_sent (i : Fin 8) {A : Memref sig .tc .vmem S8x32x512 .bf16} {hdst : ((A.slice (r8 i) (fun _ => rfl)).squeeze S32x512 squeezes_S1x32x512_S32x512).view.WordExact}
    (hN : ((A.slice (r8 i) (fun _ => rfl)).squeeze S32x512 squeezes_S1x32x512_S32x512).view.dmaCredit = N) :
    iprop(known V K ∗ sx (F := F) c j ∗ ow (F := F) c 16)
      ⊢ iprop(((ow (F := F) c 16 ∗ sdone (F := F) c j ∗ srcPiece V c j) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sS j) src ((A.slice (r8 i) (fun _ => rfl)).squeeze S32x512 squeezes_S1x32x512_S32x512) hsrc hdst) k) Q) := by
  unfold sx sdone
  iintro ⟨#HK, ⟨Hc, Hat⟩, HO⟩ Hk
  iapply (wp_wait_dma V K c 16 3 (sS j) (by simp [sS]) (sCell_mem c j) (lv_send c j) (by decide) hN) $$ [Hc Hat HO]
  · isplitr; · iexact HK
    isplitl [Hc]; · iexact Hc
    isplitl [Hat]; · iexact Hat
    iexact HO
  iintro ⟨HO, Hat, Hp⟩
  iapply Hk
  isplitl [HO]; · iexact HO
  isplitl [Hat]; · iexact Hat
  iapply (Entails.of_eq (payload_send V c j false)); iexact Hp

end Waits

end Rules

end Cert.KernelIdeal.Exchange

end
-- ==== Proof.PartsA.lean ====
/-
# The parts of the body, first phase

What each part of the kernel body does, one theorem per part: what it takes, what it leaves and what it returns. This module
has the computation of the two shares and the first exchange.
-/
module

public import proofs.«01_k».proof.Proof.Ops

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The windows' staging buffers. -/
abbrev stg0 : Memref sig .tc .vmem S256x512 .bf16 := Memref.whole cc0_stg0_0
abbrev stg1 : Memref sig .tc .vmem S512x256 .bf16 := Memref.whole cc0_stg1_0
abbrev stg2 : Memref sig .tc .vmem S2x128x4x64 .bf16 := Memref.whole cc0_stg2_0
abbrev stg3 : Memref sig .tc .vmem S2x128x4x64 .bf16 := Memref.whole cc0_stg3_0
abbrev stg4 : Memref sig .tc .vmem S256x512 .bf16 := Memref.whole cc0_stg4_0
abbrev outM : Memref sig .tc .vmem S256x512 .bf16 := Memref.whole cc0_stg5_0

/-- A load of a whole window reads its contents. -/
theorem read_whole1 (X : S512x256.Idx → Elt F .bf16) :
    (stg1.access (Rect.unit (s := S512x256) ![0, 0] S512x256.size inb_S512x256_S512x256_0_0)).read (Elt F) X = X := by
  funext i
  refine congrArg X (funext fun a => Fin.ext ?_)
  show (![0, 0] : Fin 2 → ℕ) a + 1 * (i a).val = (i a).val
  fin_cases a <;> exact (Nat.zero_add _).trans (Nat.one_mul _)
theorem read_whole4 (X : S256x512.Idx → Elt F .bf16) :
    (stg4.access (Rect.unit (s := S256x512) ![0, 0] S256x512.size inb_S256x512_S256x512_0_0)).read (Elt F) X = X := by
  funext i
  refine congrArg X (funext fun a => Fin.ext ?_)
  show (![0, 0] : Fin 2 → ℕ) a + 1 * (i a).val = (i a).val
  fin_cases a <;> exact (Nat.zero_add _).trans (Nat.one_mul _)

/-- What the barrier hands over, slot by slot. -/
theorem barPay1_eq (c : Dev nD) : barPay1 (F := F) c = iprop(openSlot (F := F) (pt 0 c) 0 ∗ openSlot (F := F) (pt 1 c) 1 ∗ openSlot (F := F) (pt 2 c) 2
    ∗ openSlot (F := F) (pt 3 c) 3 ∗ openSlot (F := F) (pt 4 c) 4 ∗ openSlot (F := F) (pt 5 c) 5 ∗ openSlot (F := F) (pt 6 c) 6 ∗ openSlot (F := F) (pt 7 c) 7) :=
  bigSep_univ_eq_bigSepL [(0 : Fin 8), 1, 2, 3, 4, 5, 6, 7] (by decide) (by decide) _
theorem barPay2_eq (c : Dev nD) : barPay2 (F := F) c = iprop(openSlot (F := F) (pt 8 c) 8 ∗ openSlot (F := F) (pt 9 c) 9 ∗ openSlot (F := F) (pt 10 c) 10
    ∗ openSlot (F := F) (pt 11 c) 11 ∗ openSlot (F := F) (pt 12 c) 12 ∗ openSlot (F := F) (pt 13 c) 13 ∗ openSlot (F := F) (pt 14 c) 14 ∗ openSlot (F := F) (pt 15 c) 15) :=
  bigSep_univ_eq_bigSepL [(0 : Fin 8), 1, 2, 3, 4, 5, 6, 7] (by decide) (by decide) _

/-! ## The devices the program addresses -/

theorem dev1_eq (c : Dev nD) : (⟨k0_dev1 c, k0_dev1_lt c⟩ : Dev nD) = p1 c := by revert c; decide
theorem dev2_eq (c : Dev nD) : (⟨k0_dev2 c, k0_dev2_lt c⟩ : Dev nD) = p2 c := by revert c; decide
theorem dev3_eq (c : Dev nD) : (⟨k0_dev3 c, k0_dev3_lt c⟩ : Dev nD) = pt 0 c := by revert c; decide
theorem dev4_eq (c : Dev nD) : (⟨k0_dev4 c, k0_dev4_lt c⟩ : Dev nD) = pt 1 c := by revert c; decide
theorem dev5_eq (c : Dev nD) : (⟨k0_dev5 c, k0_dev5_lt c⟩ : Dev nD) = pt 2 c := by revert c; decide
theorem dev6_eq (c : Dev nD) : (⟨k0_dev6 c, k0_dev6_lt c⟩ : Dev nD) = pt 3 c := by revert c; decide
theorem dev7_eq (c : Dev nD) : (⟨k0_dev7 c, k0_dev7_lt c⟩ : Dev nD) = pt 4 c := by revert c; decide
theorem dev8_eq (c : Dev nD) : (⟨k0_dev8 c, k0_dev8_lt c⟩ : Dev nD) = pt 5 c := by revert c; decide
theorem dev9_eq (c : Dev nD) : (⟨k0_dev9 c, k0_dev9_lt c⟩ : Dev nD) = pt 6 c := by revert c; decide
theorem dev10_eq (c : Dev nD) : (⟨k0_dev10 c, k0_dev10_lt c⟩ : Dev nD) = pt 7 c := by revert c; decide
theorem dev11_eq (c : Dev nD) : (⟨k0_dev11 c, k0_dev11_lt c⟩ : Dev nD) = pt 8 c := by revert c; decide
theorem dev12_eq (c : Dev nD) : (⟨k0_dev12 c, k0_dev12_lt c⟩ : Dev nD) = pt 9 c := by revert c; decide
theorem dev13_eq (c : Dev nD) : (⟨k0_dev13 c, k0_dev13_lt c⟩ : Dev nD) = pt 10 c := by revert c; decide
theorem dev14_eq (c : Dev nD) : (⟨k0_dev14 c, k0_dev14_lt c⟩ : Dev nD) = pt 11 c := by revert c; decide
theorem dev15_eq (c : Dev nD) : (⟨k0_dev15 c, k0_dev15_lt c⟩ : Dev nD) = pt 12 c := by revert c; decide
theorem dev16_eq (c : Dev nD) : (⟨k0_dev16 c, k0_dev16_lt c⟩ : Dev nD) = pt 13 c := by revert c; decide
theorem dev17_eq (c : Dev nD) : (⟨k0_dev17 c, k0_dev17_lt c⟩ : Dev nD) = pt 14 c := by revert c; decide
theorem dev18_eq (c : Dev nD) : (⟨k0_dev18 c, k0_dev18_lt c⟩ : Dev nD) = pt 15 c := by revert c; decide

section Parts

variable (I : Dev nD → Inputs F) (K : GSem nD τ sig → ℕ) (c : Dev nD)

/-- Part 1 of the body: the signals to the two barriers and the loads of the weights. -/
theorem run1 {Q : (Σ' (d0 : Dev nD) (v3 : BitVec 32) (v4 : BitVec 32) (v5 : Sems sig S_) (v11 : FVec F S512x256 .bf16) (v13 : FVec F S256x512 .bf16) (v14 : IVec S128x128 32) (v17 : IVec S128x128 32), IVec S128x128 1) → sProp (MT nD τ sig Unit (Elt F) ℕ UU ℕ)} :
    iprop((known (sent I) K ∗ iprop(dutyTok ER (barCell (p1 c)) 0 false ∗ (bigSep Finset.univ fun i : Fin 8 => openSlot (F := F) c (Fin.castAdd 8 i))) ∗ iprop(∃ W, owes (c : Thread nD τ) (O₀ c) W) ∗ iprop(dutyTok ER (barCell (p2 c)) 0 true ∗ (bigSep Finset.univ fun i : Fin 8 => openSlot (F := F) c (Fin.natAdd 8 i))) ∗ win c stg1 (I c).wq ∗ win c stg4 (I c).wo)
      ∗ ((ow (F := F) c 0 ∗ win c stg1 (I c).wq ∗ win c stg4 (I c).wo) -∗ Q ⟨c, (Scalar.xori (Scalar.remsi (Scalar.divsi (Dev.word c) 1#32) 4#32) 1#32), (Scalar.subi 3#32 (Scalar.remsi (Scalar.divsi (Dev.word c) 1#32) 4#32)), (SemArray.scalar (sig.barrier 0 rfl)), (k0_pay1 (I c).wq), (k0_pay2 (I c).wo), (iota .tc S128x128 32 [0] iota_S128x128_d0_w32), k0_pay3, k0_pay4⟩))
      ⊢ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part1_eq_skeleton]; unfold k0_part1_skel
  simp only [semSignalWord, semWaitWord, Prog.lift, Prog.bind_op, Prog.bind_ret, Prog.pure_eq_ret, Prog.bind_assoc, wp_deviceId]
  iintro ⟨⟨#HK, HS1, HOO, HS2, HW1, HW4⟩, Hk⟩
  icases HS1 with ⟨Ht, Hp⟩
  iapply (wp_signal1 (sent I) K c _ (dev1_eq c) (by decide)) $$ [Ht Hp HOO]
  · isplitr; · iexact HK
    isplitl [Ht]; · iexact Ht
    isplitl [Hp]; · iexact Hp
    iexact HOO
  iintro HOO
  icases HS2 with ⟨Ht, Hp⟩
  iapply (wp_signal2 (sent I) K c _ (dev2_eq c) (by decide)) $$ [Ht Hp HOO]
  · isplitr; · iexact HK
    isplitl [Ht]; · iexact Ht
    isplitl [Hp]; · iexact Hp
    iexact HOO
  iintro HO
  iapply (win_load c (Rect.unit (s := S512x256) ![0, 0] S512x256.size inb_S512x256_S512x256_0_0) (I c).wq (by exact read_whole1 _)) $$ HW1; iintro HW1
  iapply (win_load c (Rect.unit (s := S256x512) ![0, 0] S256x512.size inb_S256x512_S256x512_0_0) (I c).wo (by exact read_whole4 _)) $$ HW4; iintro HW4
  rw [wp_ret_as c (b := ⟨c, (Scalar.xori (Scalar.remsi (Scalar.divsi (Dev.word c) 1#32) 4#32) 1#32), (Scalar.subi 3#32 (Scalar.remsi (Scalar.divsi (Dev.word c) 1#32) 4#32)), (SemArray.scalar (sig.barrier 0 rfl)), (k0_pay1 (I c).wq), (k0_pay2 (I c).wo), (iota .tc S128x128 32 [0] iota_S128x128_d0_w32), k0_pay3, k0_pay4⟩)]
  rotate_left; · rfl
  imodintro
  iapply Hk
  isplitl [HO]; · iexact HO
  isplitl [HW1]; · iexact HW1
  iexact HW4

/-- Part 2 of the body: the first head of batch row 0, up to its scores. -/
theorem run2 {Q : (Σ' (v64 : IVec S128x128 1) (v68 : FVec F S128x256 .bf16) (v73 : FVec F S128x64 .bf16) (v74 : FVec F S128x128 .f32), FVec F S128x128 .f32) → sProp (MT nD τ sig Unit (Elt F) ℕ UU ℕ)} :
    iprop((known (sent I) K ∗ win c stg0 (I c).x ∗ win c stg2 (I c).k ∗ win c stg3 (I c).v)
      ∗ ((win c stg0 (I c).x ∗ win c stg2 (I c).k ∗ win c stg3 (I c).v) -∗ Q ⟨mask, (qrows (I c) 0), (k0_pay7 (atR (rKV 0 0) (I c).v)), (k0_pay8 (k0_pay1 (I c).wq) (atR (rX 0) (I c).x) (atR (rKV 0 0) (I c).k)), (k0_pay9 (F := F))⟩))
      ⊢ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay1 (I c).wq) (iota .tc S128x128 32 [0] iota_S128x128_d0_w32) k0_pay3 k0_pay4) Q := by
  rw [k0_part2_eq_skeleton]; unfold k0_part2_skel
  simp only [semSignalWord, semWaitWord, Prog.lift, Prog.bind_op, Prog.bind_ret, Prog.pure_eq_ret, Prog.bind_assoc, wp_deviceId]
  iintro ⟨⟨#HK, HW0, HW2, HW3⟩, Hk⟩
  iapply (win_load c (Rect.unit (s := S256x512) ![0, 0] S128x512.size inb_S256x512_S128x512_0_0) (atR (rX 0) (I c).x) rfl) $$ HW0; iintro HW0
  iapply (win_load c (Rect.unit (s := S2x128x4x64) ![0, 0, 0, 0] S1x128x1x64.size inb_S2x128x4x64_S1x128x1x64_0_0_0_0) (atR (rKV 0 0) (I c).k) rfl) $$ HW2; iintro HW2
  iapply (win_load c (Rect.unit (s := S2x128x4x64) ![0, 0, 0, 0] S1x128x1x64.size inb_S2x128x4x64_S1x128x1x64_0_0_0_0) (atR (rKV 0 0) (I c).v) rfl) $$ HW3; iintro HW3
  rw [wp_ret_as c (b := ⟨mask, (qrows (I c) 0), (k0_pay7 (atR (rKV 0 0) (I c).v)), (k0_pay8 (k0_pay1 (I c).wq) (atR (rX 0) (I c).x) (atR (rKV 0 0) (I c).k)), (k0_pay9 (F := F))⟩)]
  rotate_left; · rfl
  imodintro
  iapply Hk
  isplitl [HW0]; · iexact HW0
  isplitl [HW2]; · iexact HW2
  iexact HW3

/-- Part 3 of the body: heads 0 and 1 of batch row 0, and the scores of head 2. -/
theorem run3 {Q : (Σ' (v85 : FVec F S128x64 .f32) (v102 : FVec F S128x64 .f32) (v107 : FVec F S128x64 .bf16) (v108 : FVec F S128x128 .f32), FVec F S128x128 .f32) → sProp (MT nD τ sig Unit (Elt F) ℕ UU ℕ)} :
    iprop((known (sent I) K ∗ win c stg2 (I c).k ∗ win c stg3 (I c).v)
      ∗ ((win c stg2 (I c).k ∗ win c stg3 (I c).v) -∗ Q ⟨(ctx (I c) 0 0), (ctx (I c) 0 1), (k0_pay12 (atR (rKV 0 2) (I c).v)), (k0_pay13 (qrows (I c) 0) (atR (rKV 0 2) (I c).k)), (k0_pay14 (F := F))⟩))
      ⊢ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 mask (qrows (I c) 0) (k0_pay7 (atR (rKV 0 0) (I c).v)) (k0_pay8 (k0_pay1 (I c).wq) (atR (rX 0) (I c).x) (atR (rKV 0 0) (I c).k)) (k0_pay9 (F := F))) Q := by
  rw [k0_part3_eq_skeleton]; unfold k0_part3_skel
  simp only [semSignalWord, semWaitWord, Prog.lift, Prog.bind_op, Prog.bind_ret, Prog.pure_eq_ret, Prog.bind_assoc, wp_deviceId]
  iintro ⟨⟨#HK, HW2, HW3⟩, Hk⟩
  iapply (win_load c (Rect.unit (s := S2x128x4x64) ![0, 0, 1, 0] S1x128x1x64.size inb_S2x128x4x64_S1x128x1x64_0_0_1_0) (atR (rKV 0 1) (I c).k) rfl) $$ HW2; iintro HW2
  iapply (win_load c (Rect.unit (s := S2x128x4x64) ![0, 0, 1, 0] S1x128x1x64.size inb_S2x128x4x64_S1x128x1x64_0_0_1_0) (atR (rKV 0 1) (I c).v) rfl) $$ HW3; iintro HW3
  iapply (win_load c (Rect.unit (s := S2x128x4x64) ![0, 0, 2, 0] S1x128x1x64.size inb_S2x128x4x64_S1x128x1x64_0_0_2_0) (atR (rKV 0 2) (I c).k) rfl) $$ HW2; iintro HW2
  iapply (win_load c (Rect.unit (s := S2x128x4x64) ![0, 0, 2, 0] S1x128x1x64.size inb_S2x128x4x64_S1x128x1x64_0_0_2_0) (atR (rKV 0 2) (I c).v) rfl) $$ HW3; iintro HW3
  rw [wp_ret_as c (b := ⟨(ctx (I c) 0 0), (ctx (I c) 0 1), (k0_pay12 (atR (rKV 0 2) (I c).v)), (k0_pay13 (qrows (I c) 0) (atR (rKV 0 2) (I c).k)), (k0_pay14 (F := F))⟩)]
  rotate_left; · rfl
  imodintro
  iapply Hk
  isplitl [HW2]; · iexact HW2
  iexact HW3

/-- Part 4 of the body: the share for batch row 0, and its first chunk stored. -/
theorem run4 {Q : (Σ' (v139 : FVec F S128x512 .f32), FVec F S32x512 .bf16) → sProp (MT nD τ sig Unit (Elt F) ℕ UU ℕ)} :
    iprop((known (sent I) K ∗ win c stg2 (I c).k ∗ win c stg3 (I c).v ∗ slot (F := F) c bufA (r8 0))
      ∗ ((win c stg2 (I c).k ∗ win c stg3 (I c).v ∗ piece c bufA (r8 0) (sent I c 0)) -∗ Q ⟨(half (I c) 0), (truncf .bf16 (own (I c) 1) bitsLt_bf16_f32)⟩))
      ⊢ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 (k0_pay2 (I c).wo) mask (qrows (I c) 0) (ctx (I c) 0 0) (ctx (I c) 0 1) (k0_pay12 (atR (rKV 0 2) (I c).v)) (k0_pay13 (qrows (I c) 0) (atR (rKV 0 2) (I c).k)) (k0_pay14 (F := F))) Q := by
  rw [k0_part4_eq_skeleton]; unfold k0_part4_skel
  simp only [semSignalWord, semWaitWord, Prog.lift, Prog.bind_op, Prog.bind_ret, Prog.pure_eq_ret, Prog.bind_assoc, wp_deviceId]
  iintro ⟨⟨#HK, HW2, HW3, HA0⟩, Hk⟩
  iapply (win_load c (Rect.unit (s := S2x128x4x64) ![0, 0, 3, 0] S1x128x1x64.size inb_S2x128x4x64_S1x128x1x64_0_0_3_0) (atR (rKV 0 3) (I c).k) rfl) $$ HW2; iintro HW2
  iapply (win_load c (Rect.unit (s := S2x128x4x64) ![0, 0, 3, 0] S1x128x1x64.size inb_S2x128x4x64_S1x128x1x64_0_0_3_0) (atR (rKV 0 3) (I c).v) rfl) $$ HW3; iintro HW3
  iapply (slot_load c (M := bufA) (r8 0) (fun _ => rfl)) $$ HA0; iintro HA0
  iapply (slot_store c (M := bufA) (r8 0) (sent I c 0) rfl) $$ HA0; iintro HA0
  rw [wp_ret_as c (b := ⟨(half (I c) 0), (truncf .bf16 (own (I c) 1) bitsLt_bf16_f32)⟩)]
  rotate_left; · rfl
  imodintro
  iapply Hk
  isplitl [HW2]; · iexact HW2
  isplitl [HW3]; · iexact HW3
  iexact HA0

/-- Part 5 of the body: the other chunks of batch row 0 stored, the barrier, the first transfer. -/
theorem run5 (v3 : BitVec 32) {Q : (PUnit) → sProp (MT nD τ sig Unit (Elt F) ℕ UU ℕ)} :
    iprop((known (sent I) K ∗ slot (F := F) c bufA (r8 1) ∗ slot (F := F) c bufA (r8 2) ∗ slot (F := F) c bufA (r8 3) ∗ iprop(cred (tallyAt (barCell c) () 2) ∗ atPos ER (barCell c) 0 ∅ 0) ∗ ow (F := F) c 0 ∗ piece c bufA (r8 0) (sent I c 0) ∗ tx (F := F) c 0)
      ∗ ((piece c bufA (r8 1) (sent I c 1) ∗ piece c bufA (r8 2) (sent I c 2) ∗ piece c bufA (r8 3) (sent I c 3) ∗ atPos ER (barCell c) (0 + 1) ∅ 0 ∗ ow (F := F) c 1 ∗ openSlot (F := F) (pt 1 c) 1 ∗ openSlot (F := F) (pt 2 c) 2 ∗ openSlot (F := F) (pt 3 c) 3 ∗ openSlot (F := F) (pt 4 c) 4 ∗ openSlot (F := F) (pt 5 c) 5 ∗ openSlot (F := F) (pt 6 c) 6 ∗ openSlot (F := F) (pt 7 c) 7 ∗ openSlot (F := F) (pt 8 c) 8 ∗ openSlot (F := F) (pt 9 c) 9 ∗ openSlot (F := F) (pt 10 c) 10 ∗ openSlot (F := F) (pt 11 c) 11 ∗ openSlot (F := F) (pt 12 c) 12 ∗ openSlot (F := F) (pt 13 c) 13 ∗ openSlot (F := F) (pt 14 c) 14 ∗ openSlot (F := F) (pt 15 c) 15 ∗ sx (F := F) c 0) -∗ Q ⟨⟩))
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 (SemArray.scalar (sig.barrier 0 rfl)) (half (I c) 0) (truncf .bf16 (own (I c) 1) bitsLt_bf16_f32)) Q := by
  rw [k0_part5_eq_skeleton]; unfold k0_part5_skel
  simp only [semSignalWord, semWaitWord, Prog.lift, Prog.bind_op, Prog.bind_ret, Prog.pure_eq_ret, Prog.bind_assoc, wp_deviceId]
  iintro ⟨⟨#HK, HA1, HA2, HA3, HBw, HO, HA0, HT0⟩, Hk⟩
  iapply (slot_load c (M := bufA) (r8 1) (fun _ => rfl)) $$ HA1; iintro HA1
  iapply (slot_store c (M := bufA) (r8 1) (sent I c 1) rfl) $$ HA1; iintro HA1
  iapply (slot_load c (M := bufA) (r8 2) (fun _ => rfl)) $$ HA2; iintro HA2
  iapply (slot_store c (M := bufA) (r8 2) (sent I c 2) rfl) $$ HA2; iintro HA2
  iapply (slot_load c (M := bufA) (r8 3) (fun _ => rfl)) $$ HA3; iintro HA3
  iapply (slot_store c (M := bufA) (r8 3) (sent I c 3) rfl) $$ HA3; iintro HA3
  icases HBw with ⟨Hcr, Hat⟩
  iapply (wp_barrier (sent I) K c (by decide)) $$ [Hcr Hat HO]
  · isplitr; · iexact HK
    isplitl [Hcr]; · iexact Hcr
    isplitl [Hat]; · iexact Hat
    iexact HO
  iintro ⟨HO, HBw, Hp1, Hp2⟩
  ihave Hp1 := (Entails.of_eq (barPay1_eq c)) $$ Hp1
  ihave Hp2 := (Entails.of_eq (barPay2_eq c)) $$ Hp2
  icases Hp1 with ⟨HD0, HD1, HD2, HD3, HD4, HD5, HD6, HD7⟩
  icases Hp2 with ⟨HD8, HD9, HD10, HD11, HD12, HD13, HD14, HD15⟩
  iapply (wp_go (sent I) K c _ 0 0 (A := bufA) (dev3_eq c) rfl) $$ [HA0 HD0 HT0 HO]
  · isplitr; · iexact HK
    isplitl [HA0]; · iexact HA0
    isplitl [HD0]; · iexact HD0
    isplitl [HT0]; · iexact HT0
    iexact HO
  iintro ⟨HT0, HO⟩
  rw [wp_ret_as c (b := ⟨⟩)]
  rotate_left; · rfl
  imodintro
  iapply Hk
  isplitl [HA1]; · iexact HA1
  isplitl [HA2]; · iexact HA2
  isplitl [HA3]; · iexact HA3
  isplitl [HBw]; · iexact HBw
  isplitl [HO]; · iexact HO
  isplitl [HD1]; · iexact HD1
  isplitl [HD2]; · iexact HD2
  isplitl [HD3]; · iexact HD3
  isplitl [HD4]; · iexact HD4
  isplitl [HD5]; · iexact HD5
  isplitl [HD6]; · iexact HD6
  isplitl [HD7]; · iexact HD7
  isplitl [HD8]; · iexact HD8
  isplitl [HD9]; · iexact HD9
  isplitl [HD10]; · iexact HD10
  isplitl [HD11]; · iexact HD11
  isplitl [HD12]; · iexact HD12
  isplitl [HD13]; · iexact HD13
  isplitl [HD14]; · iexact HD14
  isplitl [HD15]; · iexact HD15
  iexact HT0

/-- Part 6 of the body: transfers 1 to 3, and the queries of batch row 1. -/
theorem run6 (v3 : BitVec 32) {Q : (Σ' (v203 : FVec F S128x256 .bf16), FVec F S128x64 .bf16) → sProp (MT nD τ sig Unit (Elt F) ℕ UU ℕ)} :
    iprop((known (sent I) K ∗ piece c bufA (r8 1) (sent I c 1) ∗ openSlot (F := F) (pt 1 c) 1 ∗ tx (F := F) c 1 ∗ ow (F := F) c 1 ∗ piece c bufA (r8 2) (sent I c 2) ∗ openSlot (F := F) (pt 2 c) 2 ∗ tx (F := F) c 2 ∗ piece c bufA (r8 3) (sent I c 3) ∗ openSlot (F := F) (pt 3 c) 3 ∗ tx (F := F) c 3 ∗ win c stg0 (I c).x)
      ∗ ((sx (F := F) c 1 ∗ ow (F := F) c 4 ∗ sx (F := F) c 2 ∗ sx (F := F) c 3 ∗ win c stg0 (I c).x) -∗ Q ⟨(qrows (I c) 1), (qhead (qrows (I c) 1) 0)⟩))
      ⊢ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 (k0_pay1 (I c).wq)) Q := by
  rw [k0_part6_eq_skeleton]; unfold k0_part6_skel
  simp only [semSignalWord, semWaitWord, Prog.lift, Prog.bind_op, Prog.bind_ret, Prog.pure_eq_ret, Prog.bind_assoc, wp_deviceId]
  iintro ⟨⟨#HK, HA1, HD1, HT1, HO, HA2, HD2, HT2, HA3, HD3, HT3, HW0⟩, Hk⟩
  iapply (wp_go (sent I) K c _ 1 1 (A := bufA) (dev4_eq c) rfl) $$ [HA1 HD1 HT1 HO]
  · isplitr; · iexact HK
    isplitl [HA1]; · iexact HA1
    isplitl [HD1]; · iexact HD1
    isplitl [HT1]; · iexact HT1
    iexact HO
  iintro ⟨HT1, HO⟩
  iapply (wp_go (sent I) K c _ 2 2 (A := bufA) (dev5_eq c) rfl) $$ [HA2 HD2 HT2 HO]
  · isplitr; · iexact HK
    isplitl [HA2]; · iexact HA2
    isplitl [HD2]; · iexact HD2
    isplitl [HT2]; · iexact HT2
    iexact HO
  iintro ⟨HT2, HO⟩
  iapply (wp_go (sent I) K c _ 3 3 (A := bufA) (dev6_eq c) rfl) $$ [HA3 HD3 HT3 HO]
  · isplitr; · iexact HK
    isplitl [HA3]; · iexact HA3
    isplitl [HD3]; · iexact HD3
    isplitl [HT3]; · iexact HT3
    iexact HO
  iintro ⟨HT3, HO⟩
  iapply (win_load c (Rect.unit (s := S256x512) ![128, 0] S128x512.size inb_S256x512_S128x512_128_0) (atR (rX 1) (I c).x) rfl) $$ HW0; iintro HW0
  rw [wp_ret_as c (b := ⟨(qrows (I c) 1), (qhead (qrows (I c) 1) 0)⟩)]
  rotate_left; · rfl
  imodintro
  iapply Hk
  isplitl [HT1]; · iexact HT1
  isplitl [HO]; · iexact HO
  isplitl [HT2]; · iexact HT2
  isplitl [HT3]; · iexact HT3
  iexact HW0

/-- Part 7 of the body: heads 0 and 1 of batch row 1. -/
theorem run7 {Q : (Σ' (v220 : FVec F S128x64 .f32) (v237 : FVec F S128x64 .f32), FVec F S128x64 .bf16) → sProp (MT nD τ sig Unit (Elt F) ℕ UU ℕ)} :
    iprop((known (sent I) K ∗ win c stg2 (I c).k ∗ win c stg3 (I c).v)
      ∗ ((win c stg2 (I c).k ∗ win c stg3 (I c).v) -∗ Q ⟨(ctx (I c) 1 0), (ctx (I c) 1 1), (qhead (qrows (I c) 1) 2)⟩))
      ⊢ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 mask (qrows (I c) 1) (qhead (qrows (I c) 1) 0)) Q := by
  rw [k0_part7_eq_skeleton]; unfold k0_part7_skel
  simp only [semSignalWord, semWaitWord, Prog.lift, Prog.bind_op, Prog.bind_ret, Prog.pure_eq_ret, Prog.bind_assoc, wp_deviceId]
  iintro ⟨⟨#HK, HW2, HW3⟩, Hk⟩
  iapply (win_load c (Rect.unit (s := S2x128x4x64) ![1, 0, 0, 0] S1x128x1x64.size inb_S2x128x4x64_S1x128x1x64_1_0_0_0) (atR (rKV 1 0) (I c).k) rfl) $$ HW2; iintro HW2
  iapply (win_load c (Rect.unit (s := S2x128x4x64) ![1, 0, 0, 0] S1x128x1x64.size inb_S2x128x4x64_S1x128x1x64_1_0_0_0) (atR (rKV 1 0) (I c).v) rfl) $$ HW3; iintro HW3
  iapply (win_load c (Rect.unit (s := S2x128x4x64) ![1, 0, 1, 0] S1x128x1x64.size inb_S2x128x4x64_S1x128x1x64_1_0_1_0) (atR (rKV 1 1) (I c).k) rfl) $$ HW2; iintro HW2
  iapply (win_load c (Rect.unit (s := S2x128x4x64) ![1, 0, 1, 0] S1x128x1x64.size inb_S2x128x4x64_S1x128x1x64_1_0_1_0) (atR (rKV 1 1) (I c).v) rfl) $$ HW3; iintro HW3
  rw [wp_ret_as c (b := ⟨(ctx (I c) 1 0), (ctx (I c) 1 1), (qhead (qrows (I c) 1) 2)⟩)]
  rotate_left; · rfl
  imodintro
  iapply Hk
  isplitl [HW2]; · iexact HW2
  iexact HW3

/-- Part 8 of the body: heads 2 and 3 of batch row 1. -/
theorem run8 {Q : (Σ' (v273 : FVec F S128x256 .bf16), FVec F S128x512 .f32) → sProp (MT nD τ sig Unit (Elt F) ℕ UU ℕ)} :
    iprop((known (sent I) K ∗ win c stg2 (I c).k ∗ win c stg3 (I c).v)
      ∗ ((win c stg2 (I c).k ∗ win c stg3 (I c).v) -∗ Q ⟨(ctxs (I c) 1), (constant S128x512 .f32 0x00000000#32)⟩))
      ⊢ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 mask (qrows (I c) 1) (ctx (I c) 1 0) (ctx (I c) 1 1) (qhead (qrows (I c) 1) 2)) Q := by
  rw [k0_part8_eq_skeleton]; unfold k0_part8_skel
  simp only [semSignalWord, semWaitWord, Prog.lift, Prog.bind_op, Prog.bind_ret, Prog.pure_eq_ret, Prog.bind_assoc, wp_deviceId]
  iintro ⟨⟨#HK, HW2, HW3⟩, Hk⟩
  iapply (win_load c (Rect.unit (s := S2x128x4x64) ![1, 0, 2, 0] S1x128x1x64.size inb_S2x128x4x64_S1x128x1x64_1_0_2_0) (atR (rKV 1 2) (I c).k) rfl) $$ HW2; iintro HW2
  iapply (win_load c (Rect.unit (s := S2x128x4x64) ![1, 0, 2, 0] S1x128x1x64.size inb_S2x128x4x64_S1x128x1x64_1_0_2_0) (atR (rKV 1 2) (I c).v) rfl) $$ HW3; iintro HW3
  iapply (win_load c (Rect.unit (s := S2x128x4x64) ![1, 0, 3, 0] S1x128x1x64.size inb_S2x128x4x64_S1x128x1x64_1_0_3_0) (atR (rKV 1 3) (I c).k) rfl) $$ HW2; iintro HW2
  iapply (win_load c (Rect.unit (s := S2x128x4x64) ![1, 0, 3, 0] S1x128x1x64.size inb_S2x128x4x64_S1x128x1x64_1_0_3_0) (atR (rKV 1 3) (I c).v) rfl) $$ HW3; iintro HW3
  rw [wp_ret_as c (b := ⟨(ctxs (I c) 1), (constant S128x512 .f32 0x00000000#32)⟩)]
  rotate_left; · rfl
  imodintro
  iapply Hk
  isplitl [HW2]; · iexact HW2
  iexact HW3

/-- Part 9 of the body: the chunks of batch row 1 stored, and transfer 4. -/
theorem run9 (v3 : BitVec 32) {Q : (FVec F S128x512 .f32) → sProp (MT nD τ sig Unit (Elt F) ℕ UU ℕ)} :
    iprop((known (sent I) K ∗ slot (F := F) c bufA (r8 4) ∗ slot (F := F) c bufA (r8 5) ∗ slot (F := F) c bufA (r8 6) ∗ slot (F := F) c bufA (r8 7) ∗ openSlot (F := F) (pt 4 c) 4 ∗ tx (F := F) c 4 ∗ ow (F := F) c 4)
      ∗ ((piece c bufA (r8 5) (sent I c 5) ∗ piece c bufA (r8 6) (sent I c 6) ∗ piece c bufA (r8 7) (sent I c 7) ∗ sx (F := F) c 4 ∗ ow (F := F) c 5) -∗ Q (half (I c) 1)))
      ⊢ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 (k0_pay2 (I c).wo) (ctxs (I c) 1) (constant S128x512 .f32 0x00000000#32)) Q := by
  rw [k0_part9_eq_skeleton]; unfold k0_part9_skel
  simp only [semSignalWord, semWaitWord, Prog.lift, Prog.bind_op, Prog.bind_ret, Prog.pure_eq_ret, Prog.bind_assoc, wp_deviceId]
  iintro ⟨⟨#HK, HA4, HA5, HA6, HA7, HD4, HT4, HO⟩, Hk⟩
  iapply (slot_load c (M := bufA) (r8 4) (fun _ => rfl)) $$ HA4; iintro HA4
  iapply (slot_store c (M := bufA) (r8 4) (sent I c 4) rfl) $$ HA4; iintro HA4
  iapply (slot_load c (M := bufA) (r8 5) (fun _ => rfl)) $$ HA5; iintro HA5
  iapply (slot_store c (M := bufA) (r8 5) (sent I c 5) rfl) $$ HA5; iintro HA5
  iapply (slot_load c (M := bufA) (r8 6) (fun _ => rfl)) $$ HA6; iintro HA6
  iapply (slot_store c (M := bufA) (r8 6) (sent I c 6) rfl) $$ HA6; iintro HA6
  iapply (slot_load c (M := bufA) (r8 7) (fun _ => rfl)) $$ HA7; iintro HA7
  iapply (slot_store c (M := bufA) (r8 7) (sent I c 7) rfl) $$ HA7; iintro HA7
  iapply (wp_go (sent I) K c _ 4 4 (A := bufA) (dev7_eq c) rfl) $$ [HA4 HD4 HT4 HO]
  · isplitr; · iexact HK
    isplitl [HA4]; · iexact HA4
    isplitl [HD4]; · iexact HD4
    isplitl [HT4]; · iexact HT4
    iexact HO
  iintro ⟨HT4, HO⟩
  rw [wp_ret_as c (b := (half (I c) 1))]
  rotate_left; · rfl
  imodintro
  iapply Hk
  isplitl [HA5]; · iexact HA5
  isplitl [HA6]; · iexact HA6
  isplitl [HA7]; · iexact HA7
  isplitl [HT4]; · iexact HT4
  iexact HO

/-- Part 10 of the body: transfers 5 and 6. -/
theorem run10 (v3 : BitVec 32) {Q : (PUnit) → sProp (MT nD τ sig Unit (Elt F) ℕ UU ℕ)} :
    iprop((known (sent I) K ∗ piece c bufA (r8 5) (sent I c 5) ∗ openSlot (F := F) (pt 5 c) 5 ∗ tx (F := F) c 5 ∗ ow (F := F) c 5 ∗ piece c bufA (r8 6) (sent I c 6) ∗ openSlot (F := F) (pt 6 c) 6 ∗ tx (F := F) c 6)
      ∗ ((sx (F := F) c 5 ∗ ow (F := F) c 7 ∗ sx (F := F) c 6) -∗ Q ⟨⟩))
      ⊢ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3) Q := by
  rw [k0_part10_eq_skeleton]; unfold k0_part10_skel
  simp only [semSignalWord, semWaitWord, Prog.lift, Prog.bind_op, Prog.bind_ret, Prog.pure_eq_ret, Prog.bind_assoc, wp_deviceId]
  iintro ⟨⟨#HK, HA5, HD5, HT5, HO, HA6, HD6, HT6⟩, Hk⟩
  iapply (wp_go (sent I) K c _ 5 5 (A := bufA) (dev8_eq c) rfl) $$ [HA5 HD5 HT5 HO]
  · isplitr; · iexact HK
    isplitl [HA5]; · iexact HA5
    isplitl [HD5]; · iexact HD5
    isplitl [HT5]; · iexact HT5
    iexact HO
  iintro ⟨HT5, HO⟩
  iapply (wp_go (sent I) K c _ 6 6 (A := bufA) (dev9_eq c) rfl) $$ [HA6 HD6 HT6 HO]
  · isplitr; · iexact HK
    isplitl [HA6]; · iexact HA6
    isplitl [HD6]; · iexact HD6
    isplitl [HT6]; · iexact HT6
    iexact HO
  iintro ⟨HT6, HO⟩
  rw [wp_ret_as c (b := ⟨⟩)]
  rotate_left; · rfl
  imodintro
  iapply Hk
  isplitl [HT5]; · iexact HT5
  isplitl [HO]; · iexact HO
  iexact HT6

/-- Part 11 of the body: transfer 7, and the first sum. -/
theorem run11 (v3 v4 : BitVec 32) {Q : (Σ' (v336 : FVec F S32x512 .f32) (v337 : FVec F S32x512 .f32) (v338 : FVec F S32x512 .f32) (v339 : FVec F S32x512 .f32) (v340 : FVec F S32x512 .f32) (v341 : FVec F S32x512 .f32) (v342 : FVec F S32x512 .f32), FVec F S32x512 .f32) → sProp (MT nD τ sig Unit (Elt F) ℕ UU ℕ)} :
    iprop((known (sent I) K ∗ piece c bufA (r8 7) (sent I c 7) ∗ openSlot (F := F) (pt 7 c) 7 ∗ tx (F := F) c 7 ∗ ow (F := F) c 7 ∗ rx (F := F) c 0 ∗ slot (F := F) c bufB (r8 0))
      ∗ ((sx (F := F) c 7 ∗ ow (F := F) c 8 ∗ rdone (F := F) c 0 ∗ piece c comm (r16 0) (sent I (pt 0 c) 0) ∗ piece c bufB (r8 0) (sent I c 8)) -∗ Q ⟨(own (I c) 1), (own (I c) 2), (own (I c) 3), (own (I c) 4), (own (I c) 5), (own (I c) 6), (own (I c) 7), (sum1 I c 0)⟩))
      ⊢ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (half (I c) 0) (half (I c) 1)) Q := by
  rw [k0_part11_eq_skeleton]; unfold k0_part11_skel
  simp only [semSignalWord, semWaitWord, Prog.lift, Prog.bind_op, Prog.bind_ret, Prog.pure_eq_ret, Prog.bind_assoc, wp_deviceId]
  iintro ⟨⟨#HK, HA7, HD7, HT7, HO, HR0, HB0⟩, Hk⟩
  iapply (wp_go (sent I) K c _ 7 7 (A := bufA) (dev10_eq c) rfl) $$ [HA7 HD7 HT7 HO]
  · isplitr; · iexact HK
    isplitl [HA7]; · iexact HA7
    isplitl [HD7]; · iexact HD7
    isplitl [HT7]; · iexact HT7
    iexact HO
  iintro ⟨HT7, HO⟩
  iapply (wp_recv (sent I) K c 0 8 (by decide)) $$ [HR0 HO]
  · isplitr; · iexact HK
    isplitl [HR0]; · iexact HR0
    iexact HO
  iintro ⟨HO, HR0, HC0⟩
  iapply (piece_load c (M := comm) (r := r16 0)) $$ HC0; iintro HC0
  iapply (slot_load c (M := bufB) (r8 0) (fun _ => rfl)) $$ HB0; iintro HB0
  iapply (slot_store c (M := bufB) (r8 0) (sent I c 8) rfl) $$ HB0; iintro HB0
  rw [wp_ret_as c (b := ⟨(own (I c) 1), (own (I c) 2), (own (I c) 3), (own (I c) 4), (own (I c) 5), (own (I c) 6), (own (I c) 7), (sum1 I c 0)⟩)]
  rotate_left; · rfl
  imodintro
  iapply Hk
  isplitl [HT7]; · iexact HT7
  isplitl [HO]; · iexact HO
  isplitl [HR0]; · iexact HR0
  isplitl [HC0]; · iexact HC0
  iexact HB0

end Parts

end Cert.KernelIdeal.Exchange

end
-- ==== Proof.PartsB.lean ====
/-
# The parts of the body, second phase

The parts that add what arrived, exchange the sums, store the result and wait for the departures.
-/
module

public import proofs.«01_k».proof.Proof.PartsA

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts

variable (I : Dev nD → Inputs F) (K : GSem nD τ sig → ℕ) (c : Dev nD)

/-- Part 12 of the body: transfer 8, the second sum, transfer 9. -/
theorem run12 (v3 v4 : BitVec 32) {Q : (FVec F S32x512 .f32) → sProp (MT nD τ sig Unit (Elt F) ℕ UU ℕ)} :
    iprop((known (sent I) K ∗ piece c bufB (r8 0) (sent I c 8) ∗ openSlot (F := F) (pt 8 c) 8 ∗ tx (F := F) c 8 ∗ ow (F := F) c 8 ∗ rx (F := F) c 1 ∗ slot (F := F) c bufB (r8 1) ∗ openSlot (F := F) (pt 9 c) 9 ∗ tx (F := F) c 9)
      ∗ ((sx (F := F) c 8 ∗ ow (F := F) c 10 ∗ rdone (F := F) c 1 ∗ piece c comm (r16 1) (sent I (pt 1 c) 1) ∗ sx (F := F) c 9) -∗ Q (sum1 I c 1)))
      ⊢ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 1)) Q := by
  rw [k0_part12_eq_skeleton]; unfold k0_part12_skel
  simp only [semSignalWord, semWaitWord, Prog.lift, Prog.bind_op, Prog.bind_ret, Prog.pure_eq_ret, Prog.bind_assoc, wp_deviceId]
  iintro ⟨⟨#HK, HB0, HD8, HT8, HO, HR1, HB1, HD9, HT9⟩, Hk⟩
  iapply (wp_go (sent I) K c _ 8 0 (A := bufB) (dev11_eq c) rfl) $$ [HB0 HD8 HT8 HO]
  · isplitr; · iexact HK
    isplitl [HB0]; · iexact HB0
    isplitl [HD8]; · iexact HD8
    isplitl [HT8]; · iexact HT8
    iexact HO
  iintro ⟨HT8, HO⟩
  iapply (wp_recv (sent I) K c 1 9 (by decide)) $$ [HR1 HO]
  · isplitr; · iexact HK
    isplitl [HR1]; · iexact HR1
    iexact HO
  iintro ⟨HO, HR1, HC1⟩
  iapply (piece_load c (M := comm) (r := r16 1)) $$ HC1; iintro HC1
  iapply (slot_load c (M := bufB) (r8 1) (fun _ => rfl)) $$ HB1; iintro HB1
  iapply (slot_store c (M := bufB) (r8 1) (sent I c 9) rfl) $$ HB1; iintro HB1
  iapply (wp_go (sent I) K c _ 9 1 (A := bufB) (dev12_eq c) rfl) $$ [HB1 HD9 HT9 HO]
  · isplitr; · iexact HK
    isplitl [HB1]; · iexact HB1
    isplitl [HD9]; · iexact HD9
    isplitl [HT9]; · iexact HT9
    iexact HO
  iintro ⟨HT9, HO⟩
  rw [wp_ret_as c (b := (sum1 I c 1))]
  rotate_left; · rfl
  imodintro
  iapply Hk
  isplitl [HT8]; · iexact HT8
  isplitl [HO]; · iexact HO
  isplitl [HR1]; · iexact HR1
  isplitl [HC1]; · iexact HC1
  iexact HT9

/-- Part 13 of the body: the third sum and transfer 10. -/
theorem run13 (v3 v4 : BitVec 32) {Q : (Σ' (v406 : FVec F S32x512 .f32), BitVec 32) → sProp (MT nD τ sig Unit (Elt F) ℕ UU ℕ)} :
    iprop((known (sent I) K ∗ rx (F := F) c 2 ∗ ow (F := F) c 10 ∗ slot (F := F) c bufB (r8 2) ∗ openSlot (F := F) (pt 10 c) 10 ∗ tx (F := F) c 10)
      ∗ ((rdone (F := F) c 2 ∗ ow (F := F) c 11 ∗ piece c comm (r16 2) (sent I (pt 2 c) 2) ∗ sx (F := F) c 10) -∗ Q ⟨(sum1 I c 2), (Scalar.muli v3 1#32)⟩))
      ⊢ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 2)) Q := by
  rw [k0_part13_eq_skeleton]; unfold k0_part13_skel
  simp only [semSignalWord, semWaitWord, Prog.lift, Prog.bind_op, Prog.bind_ret, Prog.pure_eq_ret, Prog.bind_assoc, wp_deviceId]
  iintro ⟨⟨#HK, HR2, HO, HB2, HD10, HT10⟩, Hk⟩
  iapply (wp_recv (sent I) K c 2 10 (by decide)) $$ [HR2 HO]
  · isplitr; · iexact HK
    isplitl [HR2]; · iexact HR2
    iexact HO
  iintro ⟨HO, HR2, HC2⟩
  iapply (piece_load c (M := comm) (r := r16 2)) $$ HC2; iintro HC2
  iapply (slot_load c (M := bufB) (r8 2) (fun _ => rfl)) $$ HB2; iintro HB2
  iapply (slot_store c (M := bufB) (r8 2) (sent I c 10) rfl) $$ HB2; iintro HB2
  iapply (wp_go (sent I) K c _ 10 2 (A := bufB) (dev13_eq c) rfl) $$ [HB2 HD10 HT10 HO]
  · isplitr; · iexact HK
    isplitl [HB2]; · iexact HB2
    isplitl [HD10]; · iexact HD10
    isplitl [HT10]; · iexact HT10
    iexact HO
  iintro ⟨HT10, HO⟩
  rw [wp_ret_as c (b := ⟨(sum1 I c 2), (Scalar.muli v3 1#32)⟩)]
  rotate_left; · rfl
  imodintro
  iapply Hk
  isplitl [HR2]; · iexact HR2
  isplitl [HO]; · iexact HO
  isplitl [HC2]; · iexact HC2
  iexact HT10

/-- Part 14 of the body: the fourth sum and transfer 11. -/
theorem run14 (v3 v4 v421 : BitVec 32) {Q : (FVec F S32x512 .f32) → sProp (MT nD τ sig Unit (Elt F) ℕ UU ℕ)} :
    iprop((known (sent I) K ∗ rx (F := F) c 3 ∗ ow (F := F) c 11 ∗ slot (F := F) c bufB (r8 3) ∗ openSlot (F := F) (pt 11 c) 11 ∗ tx (F := F) c 11)
      ∗ ((rdone (F := F) c 3 ∗ ow (F := F) c 12 ∗ piece c comm (r16 3) (sent I (pt 3 c) 3) ∗ sx (F := F) c 11) -∗ Q (sum1 I c 3)))
      ⊢ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 3) v421) Q := by
  rw [k0_part14_eq_skeleton]; unfold k0_part14_skel
  simp only [semSignalWord, semWaitWord, Prog.lift, Prog.bind_op, Prog.bind_ret, Prog.pure_eq_ret, Prog.bind_assoc, wp_deviceId]
  iintro ⟨⟨#HK, HR3, HO, HB3, HD11, HT11⟩, Hk⟩
  iapply (wp_recv (sent I) K c 3 11 (by decide)) $$ [HR3 HO]
  · isplitr; · iexact HK
    isplitl [HR3]; · iexact HR3
    iexact HO
  iintro ⟨HO, HR3, HC3⟩
  iapply (piece_load c (M := comm) (r := r16 3)) $$ HC3; iintro HC3
  iapply (slot_load c (M := bufB) (r8 3) (fun _ => rfl)) $$ HB3; iintro HB3
  iapply (slot_store c (M := bufB) (r8 3) (sent I c 11) rfl) $$ HB3; iintro HB3
  iapply (wp_go (sent I) K c _ 11 3 (A := bufB) (dev14_eq c) rfl) $$ [HB3 HD11 HT11 HO]
  · isplitr; · iexact HK
    isplitl [HB3]; · iexact HB3
    isplitl [HD11]; · iexact HD11
    isplitl [HT11]; · iexact HT11
    iexact HO
  iintro ⟨HT11, HO⟩
  rw [wp_ret_as c (b := (sum1 I c 3))]
  rotate_left; · rfl
  imodintro
  iapply Hk
  isplitl [HR3]; · iexact HR3
  isplitl [HO]; · iexact HO
  isplitl [HC3]; · iexact HC3
  iexact HT11

/-- Part 15 of the body: the fifth sum and transfer 12. -/
theorem run15 (v3 v4 : BitVec 32) {Q : (FVec F S32x512 .f32) → sProp (MT nD τ sig Unit (Elt F) ℕ UU ℕ)} :
    iprop((known (sent I) K ∗ rx (F := F) c 4 ∗ ow (F := F) c 12 ∗ slot (F := F) c bufB (r8 4) ∗ openSlot (F := F) (pt 12 c) 12 ∗ tx (F := F) c 12)
      ∗ ((rdone (F := F) c 4 ∗ ow (F := F) c 13 ∗ piece c comm (r16 4) (sent I (pt 4 c) 4) ∗ sx (F := F) c 12) -∗ Q (sum1 I c 4)))
      ⊢ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 4)) Q := by
  rw [k0_part15_eq_skeleton]; unfold k0_part15_skel
  simp only [semSignalWord, semWaitWord, Prog.lift, Prog.bind_op, Prog.bind_ret, Prog.pure_eq_ret, Prog.bind_assoc, wp_deviceId]
  iintro ⟨⟨#HK, HR4, HO, HB4, HD12, HT12⟩, Hk⟩
  iapply (wp_recv (sent I) K c 4 12 (by decide)) $$ [HR4 HO]
  · isplitr; · iexact HK
    isplitl [HR4]; · iexact HR4
    iexact HO
  iintro ⟨HO, HR4, HC4⟩
  iapply (piece_load c (M := comm) (r := r16 4)) $$ HC4; iintro HC4
  iapply (slot_load c (M := bufB) (r8 4) (fun _ => rfl)) $$ HB4; iintro HB4
  iapply (slot_store c (M := bufB) (r8 4) (sent I c 12) rfl) $$ HB4; iintro HB4
  iapply (wp_go (sent I) K c _ 12 4 (A := bufB) (dev15_eq c) rfl) $$ [HB4 HD12 HT12 HO]
  · isplitr; · iexact HK
    isplitl [HB4]; · iexact HB4
    isplitl [HD12]; · iexact HD12
    isplitl [HT12]; · iexact HT12
    iexact HO
  iintro ⟨HT12, HO⟩
  rw [wp_ret_as c (b := (sum1 I c 4))]
  rotate_left; · rfl
  imodintro
  iapply Hk
  isplitl [HR4]; · iexact HR4
  isplitl [HO]; · iexact HO
  isplitl [HC4]; · iexact HC4
  iexact HT12

/-- Part 16 of the body: the sixth sum, transfer 13, the arrival of chunk 6. -/
theorem run16 (v3 v4 : BitVec 32) {Q : (FVec F S32x512 .f32) → sProp (MT nD τ sig Unit (Elt F) ℕ UU ℕ)} :
    iprop((known (sent I) K ∗ rx (F := F) c 5 ∗ ow (F := F) c 13 ∗ slot (F := F) c bufB (r8 5) ∗ openSlot (F := F) (pt 13 c) 13 ∗ tx (F := F) c 13 ∗ rx (F := F) c 6)
      ∗ ((rdone (F := F) c 5 ∗ ow (F := F) c 14 ∗ piece c comm (r16 5) (sent I (pt 5 c) 5) ∗ sx (F := F) c 13 ∗ rdone (F := F) c 6 ∗ piece c comm (r16 6) (sent I (pt 6 c) 6)) -∗ Q (sum1 I c 5)))
      ⊢ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 5)) Q := by
  rw [k0_part16_eq_skeleton]; unfold k0_part16_skel
  simp only [semSignalWord, semWaitWord, Prog.lift, Prog.bind_op, Prog.bind_ret, Prog.pure_eq_ret, Prog.bind_assoc, wp_deviceId]
  iintro ⟨⟨#HK, HR5, HO, HB5, HD13, HT13, HR6⟩, Hk⟩
  iapply (wp_recv (sent I) K c 5 13 (by decide)) $$ [HR5 HO]
  · isplitr; · iexact HK
    isplitl [HR5]; · iexact HR5
    iexact HO
  iintro ⟨HO, HR5, HC5⟩
  iapply (piece_load c (M := comm) (r := r16 5)) $$ HC5; iintro HC5
  iapply (slot_load c (M := bufB) (r8 5) (fun _ => rfl)) $$ HB5; iintro HB5
  iapply (slot_store c (M := bufB) (r8 5) (sent I c 13) rfl) $$ HB5; iintro HB5
  iapply (wp_go (sent I) K c _ 13 5 (A := bufB) (dev16_eq c) rfl) $$ [HB5 HD13 HT13 HO]
  · isplitr; · iexact HK
    isplitl [HB5]; · iexact HB5
    isplitl [HD13]; · iexact HD13
    isplitl [HT13]; · iexact HT13
    iexact HO
  iintro ⟨HT13, HO⟩
  iapply (wp_recv (sent I) K c 6 14 (by decide)) $$ [HR6 HO]
  · isplitr; · iexact HK
    isplitl [HR6]; · iexact HR6
    iexact HO
  iintro ⟨HO, HR6, HC6⟩
  rw [wp_ret_as c (b := (sum1 I c 5))]
  rotate_left; · rfl
  imodintro
  iapply Hk
  isplitl [HR5]; · iexact HR5
  isplitl [HO]; · iexact HO
  isplitl [HC5]; · iexact HC5
  isplitl [HT13]; · iexact HT13
  isplitl [HR6]; · iexact HR6
  iexact HC6

/-- Part 17 of the body: the seventh sum, transfer 14, the eighth sum. -/
theorem run17 (v3 v4 : BitVec 32) {Q : (Σ' (v510 : FVec F S32x512 .f32), FVec F S32x512 .f32) → sProp (MT nD τ sig Unit (Elt F) ℕ UU ℕ)} :
    iprop((known (sent I) K ∗ piece c comm (r16 6) (sent I (pt 6 c) 6) ∗ slot (F := F) c bufB (r8 6) ∗ openSlot (F := F) (pt 14 c) 14 ∗ tx (F := F) c 14 ∗ ow (F := F) c 14 ∗ rx (F := F) c 7)
      ∗ ((piece c comm (r16 6) (sent I (pt 6 c) 6) ∗ sx (F := F) c 14 ∗ ow (F := F) c 15 ∗ rdone (F := F) c 7 ∗ piece c comm (r16 7) (sent I (pt 7 c) 7)) -∗ Q ⟨(sum1 I c 6), (sum1 I c 7)⟩))
      ⊢ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v3 v4 (own (I c) 6) (own (I c) 7)) Q := by
  rw [k0_part17_eq_skeleton]; unfold k0_part17_skel
  simp only [semSignalWord, semWaitWord, Prog.lift, Prog.bind_op, Prog.bind_ret, Prog.pure_eq_ret, Prog.bind_assoc, wp_deviceId]
  iintro ⟨⟨#HK, HC6, HB6, HD14, HT14, HO, HR7⟩, Hk⟩
  iapply (piece_load c (M := comm) (r := r16 6)) $$ HC6; iintro HC6
  iapply (slot_load c (M := bufB) (r8 6) (fun _ => rfl)) $$ HB6; iintro HB6
  iapply (slot_store c (M := bufB) (r8 6) (sent I c 14) rfl) $$ HB6; iintro HB6
  iapply (wp_go (sent I) K c _ 14 6 (A := bufB) (dev17_eq c) rfl) $$ [HB6 HD14 HT14 HO]
  · isplitr; · iexact HK
    isplitl [HB6]; · iexact HB6
    isplitl [HD14]; · iexact HD14
    isplitl [HT14]; · iexact HT14
    iexact HO
  iintro ⟨HT14, HO⟩
  iapply (wp_recv (sent I) K c 7 15 (by decide)) $$ [HR7 HO]
  · isplitr; · iexact HK
    isplitl [HR7]; · iexact HR7
    iexact HO
  iintro ⟨HO, HR7, HC7⟩
  iapply (piece_load c (M := comm) (r := r16 7)) $$ HC7; iintro HC7
  rw [wp_ret_as c (b := ⟨(sum1 I c 6), (sum1 I c 7)⟩)]
  rotate_left; · rfl
  imodintro
  iapply Hk
  isplitl [HC6]; · iexact HC6
  isplitl [HT14]; · iexact HT14
  isplitl [HO]; · iexact HO
  isplitl [HR7]; · iexact HR7
  iexact HC7

/-- Part 18 of the body: transfer 15, and the first chunk of the result. -/
theorem run18 (v4 : BitVec 32) {Q : (PUnit) → sProp (MT nD τ sig Unit (Elt F) ℕ UU ℕ)} :
    iprop((known (sent I) K ∗ slot (F := F) c bufB (r8 7) ∗ openSlot (F := F) (pt 15 c) 15 ∗ tx (F := F) c 15 ∗ ow (F := F) c 15 ∗ rx (F := F) c 8 ∗ slot (F := F) c outM (rO 0))
      ∗ ((sx (F := F) c 15 ∗ ow (F := F) c 16 ∗ rdone (F := F) c 8 ∗ piece c comm (r16 8) (sent I (pt 8 c) 8) ∗ piece c outM (rO 0) (outC I c 0)) -∗ Q ⟨⟩))
      ⊢ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 c v4 (sum1 I c 0) (sum1 I c 7)) Q := by
  rw [k0_part18_eq_skeleton]; unfold k0_part18_skel
  simp only [semSignalWord, semWaitWord, Prog.lift, Prog.bind_op, Prog.bind_ret, Prog.pure_eq_ret, Prog.bind_assoc, wp_deviceId]
  iintro ⟨⟨#HK, HB7, HD15, HT15, HO, HR8, HU0⟩, Hk⟩
  iapply (slot_load c (M := bufB) (r8 7) (fun _ => rfl)) $$ HB7; iintro HB7
  iapply (slot_store c (M := bufB) (r8 7) (sent I c 15) rfl) $$ HB7; iintro HB7
  iapply (wp_go (sent I) K c _ 15 7 (A := bufB) (dev18_eq c) rfl) $$ [HB7 HD15 HT15 HO]
  · isplitr; · iexact HK
    isplitl [HB7]; · iexact HB7
    isplitl [HD15]; · iexact HD15
    isplitl [HT15]; · iexact HT15
    iexact HO
  iintro ⟨HT15, HO⟩
  iapply (wp_recv (sent I) K c 8 16 (by decide)) $$ [HR8 HO]
  · isplitr; · iexact HK
    isplitl [HR8]; · iexact HR8
    iexact HO
  iintro ⟨HO, HR8, HC8⟩
  iapply (piece_load c (M := comm) (r := r16 8)) $$ HC8; iintro HC8
  iapply (slot_load c (M := outM) (rO 0) (fun _ => rfl)) $$ HU0; iintro HU0
  iapply (slot_store c (M := outM) (rO 0) (outC I c 0) rfl) $$ HU0; iintro HU0
  rw [wp_ret_as c (b := ⟨⟩)]
  rotate_left; · rfl
  imodintro
  iapply Hk
  isplitl [HT15]; · iexact HT15
  isplitl [HO]; · iexact HO
  isplitl [HR8]; · iexact HR8
  isplitl [HC8]; · iexact HC8
  iexact HU0

/-- Part 19 of the body: chunk 1 of the result and chunk 2 computed. -/
theorem run19 (v4 : BitVec 32) {Q : (FVec F S32x512 .bf16) → sProp (MT nD τ sig Unit (Elt F) ℕ UU ℕ)} :
    iprop((known (sent I) K ∗ rx (F := F) c 9 ∗ ow (F := F) c 16 ∗ slot (F := F) c outM (rO 1) ∗ rx (F := F) c 10)
      ∗ ((rdone (F := F) c 9 ∗ ow (F := F) c 16 ∗ piece c comm (r16 9) (sent I (pt 9 c) 9) ∗ piece c outM (rO 1) (outC I c 1) ∗ rdone (F := F) c 10 ∗ piece c comm (r16 10) (sent I (pt 10 c) 10)) -∗ Q (outC I c 2)))
      ⊢ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v4 (sum1 I c 1) (sum1 I c 2)) Q := by
  rw [k0_part19_eq_skeleton]; unfold k0_part19_skel
  simp only [semSignalWord, semWaitWord, Prog.lift, Prog.bind_op, Prog.bind_ret, Prog.pure_eq_ret, Prog.bind_assoc, wp_deviceId]
  iintro ⟨⟨#HK, HR9, HO, HU1, HR10⟩, Hk⟩
  iapply (wp_recv (sent I) K c 9 16 (by decide)) $$ [HR9 HO]
  · isplitr; · iexact HK
    isplitl [HR9]; · iexact HR9
    iexact HO
  iintro ⟨HO, HR9, HC9⟩
  iapply (piece_load c (M := comm) (r := r16 9)) $$ HC9; iintro HC9
  iapply (slot_load c (M := outM) (rO 1) (fun _ => rfl)) $$ HU1; iintro HU1
  iapply (slot_store c (M := outM) (rO 1) (outC I c 1) rfl) $$ HU1; iintro HU1
  iapply (wp_recv (sent I) K c 10 16 (by decide)) $$ [HR10 HO]
  · isplitr; · iexact HK
    isplitl [HR10]; · iexact HR10
    iexact HO
  iintro ⟨HO, HR10, HC10⟩
  iapply (piece_load c (M := comm) (r := r16 10)) $$ HC10; iintro HC10
  rw [wp_ret_as c (b := (outC I c 2))]
  rotate_left; · rfl
  imodintro
  iapply Hk
  isplitl [HR9]; · iexact HR9
  isplitl [HO]; · iexact HO
  isplitl [HC9]; · iexact HC9
  isplitl [HU1]; · iexact HU1
  isplitl [HR10]; · iexact HR10
  iexact HC10

/-- Part 20 of the body: chunks 2 and 3 of the result, chunk 4 computed. -/
theorem run20 (v4 : BitVec 32) {Q : (FVec F S32x512 .bf16) → sProp (MT nD τ sig Unit (Elt F) ℕ UU ℕ)} :
    iprop((known (sent I) K ∗ slot (F := F) c outM (rO 2) ∗ rx (F := F) c 11 ∗ ow (F := F) c 16 ∗ slot (F := F) c outM (rO 3) ∗ rx (F := F) c 12)
      ∗ ((piece c outM (rO 2) (outC I c 2) ∗ rdone (F := F) c 11 ∗ ow (F := F) c 16 ∗ piece c comm (r16 11) (sent I (pt 11 c) 11) ∗ piece c outM (rO 3) (outC I c 3) ∗ rdone (F := F) c 12 ∗ piece c comm (r16 12) (sent I (pt 12 c) 12)) -∗ Q (outC I c 4)))
      ⊢ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v4 (sum1 I c 3) (sum1 I c 4) (outC I c 2)) Q := by
  rw [k0_part20_eq_skeleton]; unfold k0_part20_skel
  simp only [semSignalWord, semWaitWord, Prog.lift, Prog.bind_op, Prog.bind_ret, Prog.pure_eq_ret, Prog.bind_assoc, wp_deviceId]
  iintro ⟨⟨#HK, HU2, HR11, HO, HU3, HR12⟩, Hk⟩
  iapply (slot_load c (M := outM) (rO 2) (fun _ => rfl)) $$ HU2; iintro HU2
  iapply (slot_store c (M := outM) (rO 2) (outC I c 2) rfl) $$ HU2; iintro HU2
  iapply (wp_recv (sent I) K c 11 16 (by decide)) $$ [HR11 HO]
  · isplitr; · iexact HK
    isplitl [HR11]; · iexact HR11
    iexact HO
  iintro ⟨HO, HR11, HC11⟩
  iapply (piece_load c (M := comm) (r := r16 11)) $$ HC11; iintro HC11
  iapply (slot_load c (M := outM) (rO 3) (fun _ => rfl)) $$ HU3; iintro HU3
  iapply (slot_store c (M := outM) (rO 3) (outC I c 3) rfl) $$ HU3; iintro HU3
  iapply (wp_recv (sent I) K c 12 16 (by decide)) $$ [HR12 HO]
  · isplitr; · iexact HK
    isplitl [HR12]; · iexact HR12
    iexact HO
  iintro ⟨HO, HR12, HC12⟩
  iapply (piece_load c (M := comm) (r := r16 12)) $$ HC12; iintro HC12
  rw [wp_ret_as c (b := (outC I c 4))]
  rotate_left; · rfl
  imodintro
  iapply Hk
  isplitl [HU2]; · iexact HU2
  isplitl [HR11]; · iexact HR11
  isplitl [HO]; · iexact HO
  isplitl [HC11]; · iexact HC11
  isplitl [HU3]; · iexact HU3
  isplitl [HR12]; · iexact HR12
  iexact HC12

/-- Part 21 of the body: chunks 4 and 5 of the result, the arrival of chunk 6. -/
theorem run21 (v4 : BitVec 32) {Q : (FVec F S32x512 .f32) → sProp (MT nD τ sig Unit (Elt F) ℕ UU ℕ)} :
    iprop((known (sent I) K ∗ slot (F := F) c outM (rO 4) ∗ rx (F := F) c 13 ∗ ow (F := F) c 16 ∗ slot (F := F) c outM (rO 5) ∗ rx (F := F) c 14)
      ∗ ((piece c outM (rO 4) (outC I c 4) ∗ rdone (F := F) c 13 ∗ ow (F := F) c 16 ∗ piece c comm (r16 13) (sent I (pt 13 c) 13) ∗ piece c outM (rO 5) (outC I c 5) ∗ rdone (F := F) c 14 ∗ piece c comm (r16 14) (sent I (pt 14 c) 14)) -∗ Q (unpack (pack (sum1 I (p2 c) 6)))))
      ⊢ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v4 (sum1 I c 5) (outC I c 4)) Q := by
  rw [k0_part21_eq_skeleton]; unfold k0_part21_skel
  simp only [semSignalWord, semWaitWord, Prog.lift, Prog.bind_op, Prog.bind_ret, Prog.pure_eq_ret, Prog.bind_assoc, wp_deviceId]
  iintro ⟨⟨#HK, HU4, HR13, HO, HU5, HR14⟩, Hk⟩
  iapply (slot_load c (M := outM) (rO 4) (fun _ => rfl)) $$ HU4; iintro HU4
  iapply (slot_store c (M := outM) (rO 4) (outC I c 4) rfl) $$ HU4; iintro HU4
  iapply (wp_recv (sent I) K c 13 16 (by decide)) $$ [HR13 HO]
  · isplitr; · iexact HK
    isplitl [HR13]; · iexact HR13
    iexact HO
  iintro ⟨HO, HR13, HC13⟩
  iapply (piece_load c (M := comm) (r := r16 13)) $$ HC13; iintro HC13
  iapply (slot_load c (M := outM) (rO 5) (fun _ => rfl)) $$ HU5; iintro HU5
  iapply (slot_store c (M := outM) (rO 5) (outC I c 5) rfl) $$ HU5; iintro HU5
  iapply (wp_recv (sent I) K c 14 16 (by decide)) $$ [HR14 HO]
  · isplitr; · iexact HK
    isplitl [HR14]; · iexact HR14
    iexact HO
  iintro ⟨HO, HR14, HC14⟩
  iapply (piece_load c (M := comm) (r := r16 14)) $$ HC14; iintro HC14
  rw [wp_ret_as c (b := (unpack (pack (sum1 I (p2 c) 6))))]
  rotate_left; · rfl
  imodintro
  iapply Hk
  isplitl [HU4]; · iexact HU4
  isplitl [HR13]; · iexact HR13
  isplitl [HO]; · iexact HO
  isplitl [HC13]; · iexact HC13
  isplitl [HU5]; · iexact HU5
  isplitl [HR14]; · iexact HR14
  iexact HC14

/-- Part 22 of the body: chunks 6 and 7 of the result, and the first departure. -/
theorem run22 (v4 : BitVec 32) {Q : (PUnit) → sProp (MT nD τ sig Unit (Elt F) ℕ UU ℕ)} :
    iprop((known (sent I) K ∗ slot (F := F) c outM (rO 6) ∗ rx (F := F) c 15 ∗ ow (F := F) c 16 ∗ slot (F := F) c outM (rO 7) ∗ sx (F := F) c 0)
      ∗ ((piece c outM (rO 6) (outC I c 6) ∗ rdone (F := F) c 15 ∗ ow (F := F) c 16 ∗ piece c comm (r16 15) (sent I (pt 15 c) 15) ∗ piece c outM (rO 7) (outC I c 7) ∗ sdone (F := F) c 0 ∗ srcPiece (sent I) c 0) -∗ Q ⟨⟩))
      ⊢ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 v4 (sum1 I c 6) (sum1 I c 7) (unpack (pack (sum1 I (p2 c) 6)))) Q := by
  rw [k0_part22_eq_skeleton]; unfold k0_part22_skel
  simp only [semSignalWord, semWaitWord, Prog.lift, Prog.bind_op, Prog.bind_ret, Prog.pure_eq_ret, Prog.bind_assoc, wp_deviceId]
  iintro ⟨⟨#HK, HU6, HR15, HO, HU7, HT0⟩, Hk⟩
  iapply (slot_load c (M := outM) (rO 6) (fun _ => rfl)) $$ HU6; iintro HU6
  iapply (slot_store c (M := outM) (rO 6) (outC I c 6) rfl) $$ HU6; iintro HU6
  iapply (wp_recv (sent I) K c 15 16 (by decide)) $$ [HR15 HO]
  · isplitr; · iexact HK
    isplitl [HR15]; · iexact HR15
    iexact HO
  iintro ⟨HO, HR15, HC15⟩
  iapply (piece_load c (M := comm) (r := r16 15)) $$ HC15; iintro HC15
  iapply (slot_load c (M := outM) (rO 7) (fun _ => rfl)) $$ HU7; iintro HU7
  iapply (slot_store c (M := outM) (rO 7) (outC I c 7) rfl) $$ HU7; iintro HU7
  iapply (wp_sent (sent I) K c 0 0 (A := bufA) (credit_A 0)) $$ [HT0 HO]
  · isplitr; · iexact HK
    isplitl [HT0]; · iexact HT0
    iexact HO
  iintro ⟨HO, HT0, HA0⟩
  rw [wp_ret_as c (b := ⟨⟩)]
  rotate_left; · rfl
  imodintro
  iapply Hk
  isplitl [HU6]; · iexact HU6
  isplitl [HR15]; · iexact HR15
  isplitl [HO]; · iexact HO
  isplitl [HC15]; · iexact HC15
  isplitl [HU7]; · iexact HU7
  isplitl [HT0]; · iexact HT0
  iexact HA0

/-- Part 23 of the body: departures 1 to 4. -/
theorem run23 {Q : (PUnit) → sProp (MT nD τ sig Unit (Elt F) ℕ UU ℕ)} :
    iprop((known (sent I) K ∗ sx (F := F) c 1 ∗ ow (F := F) c 16 ∗ sx (F := F) c 2 ∗ sx (F := F) c 3 ∗ sx (F := F) c 4)
      ∗ ((sdone (F := F) c 1 ∗ ow (F := F) c 16 ∗ srcPiece (sent I) c 1 ∗ sdone (F := F) c 2 ∗ srcPiece (sent I) c 2 ∗ sdone (F := F) c 3 ∗ srcPiece (sent I) c 3 ∗ sdone (F := F) c 4 ∗ srcPiece (sent I) c 4) -∗ Q ⟨⟩))
      ⊢ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part23_eq_skeleton]; unfold k0_part23_skel
  simp only [semSignalWord, semWaitWord, Prog.lift, Prog.bind_op, Prog.bind_ret, Prog.pure_eq_ret, Prog.bind_assoc, wp_deviceId]
  iintro ⟨⟨#HK, HT1, HO, HT2, HT3, HT4⟩, Hk⟩
  iapply (wp_sent (sent I) K c 1 1 (A := bufA) (credit_A 1)) $$ [HT1 HO]
  · isplitr; · iexact HK
    isplitl [HT1]; · iexact HT1
    iexact HO
  iintro ⟨HO, HT1, HA1⟩
  iapply (wp_sent (sent I) K c 2 2 (A := bufA) (credit_A 2)) $$ [HT2 HO]
  · isplitr; · iexact HK
    isplitl [HT2]; · iexact HT2
    iexact HO
  iintro ⟨HO, HT2, HA2⟩
  iapply (wp_sent (sent I) K c 3 3 (A := bufA) (credit_A 3)) $$ [HT3 HO]
  · isplitr; · iexact HK
    isplitl [HT3]; · iexact HT3
    iexact HO
  iintro ⟨HO, HT3, HA3⟩
  iapply (wp_sent (sent I) K c 4 4 (A := bufA) (credit_A 4)) $$ [HT4 HO]
  · isplitr; · iexact HK
    isplitl [HT4]; · iexact HT4
    iexact HO
  iintro ⟨HO, HT4, HA4⟩
  rw [wp_ret_as c (b := ⟨⟩)]
  rotate_left; · rfl
  imodintro
  iapply Hk
  isplitl [HT1]; · iexact HT1
  isplitl [HO]; · iexact HO
  isplitl [HA1]; · iexact HA1
  isplitl [HT2]; · iexact HT2
  isplitl [HA2]; · iexact HA2
  isplitl [HT3]; · iexact HT3
  isplitl [HA3]; · iexact HA3
  isplitl [HT4]; · iexact HT4
  iexact HA4

/-- Part 24 of the body: departures 5 to 7. -/
theorem run24 {Q : (PUnit) → sProp (MT nD τ sig Unit (Elt F) ℕ UU ℕ)} :
    iprop((known (sent I) K ∗ sx (F := F) c 5 ∗ ow (F := F) c 16 ∗ sx (F := F) c 6 ∗ sx (F := F) c 7)
      ∗ ((sdone (F := F) c 5 ∗ ow (F := F) c 16 ∗ srcPiece (sent I) c 5 ∗ sdone (F := F) c 6 ∗ srcPiece (sent I) c 6 ∗ sdone (F := F) c 7 ∗ srcPiece (sent I) c 7) -∗ Q ⟨⟩))
      ⊢ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part24_eq_skeleton]; unfold k0_part24_skel
  simp only [semSignalWord, semWaitWord, Prog.lift, Prog.bind_op, Prog.bind_ret, Prog.pure_eq_ret, Prog.bind_assoc, wp_deviceId]
  iintro ⟨⟨#HK, HT5, HO, HT6, HT7⟩, Hk⟩
  iapply (wp_sent (sent I) K c 5 5 (A := bufA) (credit_A 5)) $$ [HT5 HO]
  · isplitr; · iexact HK
    isplitl [HT5]; · iexact HT5
    iexact HO
  iintro ⟨HO, HT5, HA5⟩
  iapply (wp_sent (sent I) K c 6 6 (A := bufA) (credit_A 6)) $$ [HT6 HO]
  · isplitr; · iexact HK
    isplitl [HT6]; · iexact HT6
    iexact HO
  iintro ⟨HO, HT6, HA6⟩
  iapply (wp_sent (sent I) K c 7 7 (A := bufA) (credit_A 7)) $$ [HT7 HO]
  · isplitr; · iexact HK
    isplitl [HT7]; · iexact HT7
    iexact HO
  iintro ⟨HO, HT7, HA7⟩
  rw [wp_ret_as c (b := ⟨⟩)]
  rotate_left; · rfl
  imodintro
  iapply Hk
  isplitl [HT5]; · iexact HT5
  isplitl [HO]; · iexact HO
  isplitl [HA5]; · iexact HA5
  isplitl [HT6]; · iexact HT6
  isplitl [HA6]; · iexact HA6
  isplitl [HT7]; · iexact HT7
  iexact HA7

/-- Part 25 of the body: departures 8 to 11. -/
theorem run25 {Q : (PUnit) → sProp (MT nD τ sig Unit (Elt F) ℕ UU ℕ)} :
    iprop((known (sent I) K ∗ sx (F := F) c 8 ∗ ow (F := F) c 16 ∗ sx (F := F) c 9 ∗ sx (F := F) c 10 ∗ sx (F := F) c 11)
      ∗ ((sdone (F := F) c 8 ∗ ow (F := F) c 16 ∗ srcPiece (sent I) c 8 ∗ sdone (F := F) c 9 ∗ srcPiece (sent I) c 9 ∗ sdone (F := F) c 10 ∗ srcPiece (sent I) c 10 ∗ sdone (F := F) c 11 ∗ srcPiece (sent I) c 11) -∗ Q ⟨⟩))
      ⊢ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [k0_part25_eq_skeleton]; unfold k0_part25_skel
  simp only [semSignalWord, semWaitWord, Prog.lift, Prog.bind_op, Prog.bind_ret, Prog.pure_eq_ret, Prog.bind_assoc, wp_deviceId]
  iintro ⟨⟨#HK, HT8, HO, HT9, HT10, HT11⟩, Hk⟩
  iapply (wp_sent (sent I) K c 8 0 (A := bufB) (credit_B 0)) $$ [HT8 HO]
  · isplitr; · iexact HK
    isplitl [HT8]; · iexact HT8
    iexact HO
  iintro ⟨HO, HT8, HB0⟩
  iapply (wp_sent (sent I) K c 9 1 (A := bufB) (credit_B 1)) $$ [HT9 HO]
  · isplitr; · iexact HK
    isplitl [HT9]; · iexact HT9
    iexact HO
  iintro ⟨HO, HT9, HB1⟩
  iapply (wp_sent (sent I) K c 10 2 (A := bufB) (credit_B 2)) $$ [HT10 HO]
  · isplitr; · iexact HK
    isplitl [HT10]; · iexact HT10
    iexact HO
  iintro ⟨HO, HT10, HB2⟩
  iapply (wp_sent (sent I) K c 11 3 (A := bufB) (credit_B 3)) $$ [HT11 HO]
  · isplitr; · iexact HK
    isplitl [HT11]; · iexact HT11
    iexact HO
  iintro ⟨HO, HT11, HB3⟩
  rw [wp_ret_as c (b := ⟨⟩)]
  rotate_left; · rfl
  imodintro
  iapply Hk
  isplitl [HT8]; · iexact HT8
  isplitl [HO]; · iexact HO
  isplitl [HB0]; · iexact HB0
  isplitl [HT9]; · iexact HT9
  isplitl [HB1]; · iexact HB1
  isplitl [HT10]; · iexact HT10
  isplitl [HB2]; · iexact HB2
  isplitl [HT11]; · iexact HT11
  iexact HB3

end Parts

end Cert.KernelIdeal.Exchange

end
-- ==== Proof.Body.lean ====
/-
# The body

The parts of the kernel body put together: the run of the whole body on a device.
-/
module

public import proofs.«01_k».proof.Proof.PartsB

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A family over 8 indices, member by member. -/
theorem fam8 {M : Type} [URA M] (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ
/-- A family over 16 indices, member by member. -/
theorem fam16 {M : Type} [URA M] (Φ : Fin 16 → sProp M) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

section Parts

variable (I : Dev nD → Inputs F) (K : GSem nD τ sig → ℕ) (c : Dev nD)

/-- The whole body on device `c`: from the input windows, the slots of the buffers, the transfers' rights and credits, the barrier's
    and what the device owes, to the windows unchanged, the chunks it sent, the chunks that landed, the eight chunks of the result, every cell past its
    wait, and nothing owed. -/
theorem runBody {Q : PUnit → sProp (MT nD τ sig Unit (Elt F) ℕ UU ℕ)} :
    iprop((known (sent I) K ∗ win c stg0 (I c).x ∗ win c stg1 (I c).wq ∗ win c stg2 (I c).k ∗ win c stg3 (I c).v ∗ win c stg4 (I c).wo ∗ (bigSep Finset.univ fun k : Fin 8 => slot (F := F) c bufA (r8 k)) ∗ (bigSep Finset.univ fun k : Fin 8 => slot (F := F) c bufB (r8 k)) ∗ (bigSep Finset.univ fun k : Fin 8 => slot (F := F) c outM (rO k)) ∗ (bigSep Finset.univ fun j : Fin 16 => tx (F := F) c j) ∗ (bigSep Finset.univ fun j : Fin 16 => rx (F := F) c j) ∗ (cred (tallyAt (barCell c) () 2) ∗ atPos ER (barCell c) 0 ∅ 0) ∗ (dutyTok ER (barCell (p1 c)) 0 false ∗ (bigSep Finset.univ fun i : Fin 8 => openSlot (F := F) c (Fin.castAdd 8 i))) ∗ (dutyTok ER (barCell (p2 c)) 0 true ∗ (bigSep Finset.univ fun i : Fin 8 => openSlot (F := F) c (Fin.natAdd 8 i))) ∗ (∃ W, owes (c : Thread nD τ) (O₀ c) W))
      ∗ ((win c stg0 (I c).x ∗ win c stg1 (I c).wq ∗ win c stg2 (I c).k ∗ win c stg3 (I c).v ∗ win c stg4 (I c).wo ∗ (bigSep Finset.univ fun j : Fin 16 => srcPiece (sent I) c j) ∗ (bigSep Finset.univ fun j : Fin 16 => piece c comm (r16 j) (sent I (pt j c) j)) ∗ (bigSep Finset.univ fun k : Fin 8 => piece c outM (rO k) (outC I c k)) ∗ (bigSep Finset.univ fun j : Fin 16 => sdone (F := F) c j) ∗ (bigSep Finset.univ fun j : Fin 16 => rdone (F := F) c j) ∗ atPos ER (barCell c) (0 + 1) ∅ 0 ∗ ow (F := F) c 16) -∗ Q ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4) Q := by
  rw [cc0_body_eq_skeleton]; unfold cc0_body_skel
  rw [wp_bind, k0_part26_eq_skeleton]; unfold k0_part26_skel
  iintro ⟨⟨#HK, HW0, HW1, HW2, HW3, HW4, HA, HB, HU, HT, HR, HBw, HS1, HS2, HOO⟩, Hk⟩
  ihave HA := (Entails.of_eq (fam8 _)) $$ HA
  icases HA with ⟨HA0, HA1, HA2, HA3, HA4, HA5, HA6, HA7⟩
  ihave HB := (Entails.of_eq (fam8 _)) $$ HB
  icases HB with ⟨HB0, HB1, HB2, HB3, HB4, HB5, HB6, HB7⟩
  ihave HU := (Entails.of_eq (fam8 _)) $$ HU
  icases HU with ⟨HU0, HU1, HU2, HU3, HU4, HU5, HU6, HU7⟩
  ihave HT := (Entails.of_eq (fam16 _)) $$ HT
  icases HT with ⟨HT0, HT1, HT2, HT3, HT4, HT5, HT6, HT7, HT8, HT9, HT10, HT11, HT12, HT13, HT14, HT15⟩
  ihave HR := (Entails.of_eq (fam16 _)) $$ HR
  icases HR with ⟨HR0, HR1, HR2, HR3, HR4, HR5, HR6, HR7, HR8, HR9, HR10, HR11, HR12, HR13, HR14, HR15⟩
  rw [wp_bind]
  iapply (run1 I K c)
  isplitl [HS1 HOO HS2 HW1 HW4]
  · isplitr; · iexact HK
    isplitl [HS1]; · iexact HS1
    isplitl [HOO]; · iexact HOO
    isplitl [HS2]; · iexact HS2
    isplitl [HW1]; · iexact HW1
    iexact HW4
  iintro ⟨HO, HW1, HW4⟩
  try dsimp only
  rw [wp_bind]
  iapply (run2 I K c)
  isplitl [HW0 HW2 HW3]
  · isplitr; · iexact HK
    isplitl [HW0]; · iexact HW0
    isplitl [HW2]; · iexact HW2
    iexact HW3
  iintro ⟨HW0, HW2, HW3⟩
  try dsimp only
  rw [wp_bind]
  iapply (run3 I K c)
  isplitl [HW2 HW3]
  · isplitr; · iexact HK
    isplitl [HW2]; · iexact HW2
    iexact HW3
  iintro ⟨HW2, HW3⟩
  try dsimp only
  rw [wp_bind]
  iapply (run4 I K c)
  isplitl [HW2 HW3 HA0]
  · isplitr; · iexact HK
    isplitl [HW2]; · iexact HW2
    isplitl [HW3]; · iexact HW3
    iexact HA0
  iintro ⟨HW2, HW3, HA0⟩
  try dsimp only
  rw [wp_bind]
  iapply (run5 I K c _)
  isplitl [HA1 HA2 HA3 HBw HO HA0 HT0]
  · isplitr; · iexact HK
    isplitl [HA1]; · iexact HA1
    isplitl [HA2]; · iexact HA2
    isplitl [HA3]; · iexact HA3
    isplitl [HBw]; · iexact HBw
    isplitl [HO]; · iexact HO
    isplitl [HA0]; · iexact HA0
    iexact HT0
  iintro ⟨HA1, HA2, HA3, HBw, HO, HD1, HD2, HD3, HD4, HD5, HD6, HD7, HD8, HD9, HD10, HD11, HD12, HD13, HD14, HD15, HT0⟩
  try dsimp only
  rw [wp_bind]
  iapply (run6 I K c _)
  isplitl [HA1 HD1 HT1 HO HA2 HD2 HT2 HA3 HD3 HT3 HW0]
  · isplitr; · iexact HK
    isplitl [HA1]; · iexact HA1
    isplitl [HD1]; · iexact HD1
    isplitl [HT1]; · iexact HT1
    isplitl [HO]; · iexact HO
    isplitl [HA2]; · iexact HA2
    isplitl [HD2]; · iexact HD2
    isplitl [HT2]; · iexact HT2
    isplitl [HA3]; · iexact HA3
    isplitl [HD3]; · iexact HD3
    isplitl [HT3]; · iexact HT3
    iexact HW0
  iintro ⟨HT1, HO, HT2, HT3, HW0⟩
  try dsimp only
  rw [wp_bind]
  iapply (run7 I K c)
  isplitl [HW2 HW3]
  · isplitr; · iexact HK
    isplitl [HW2]; · iexact HW2
    iexact HW3
  iintro ⟨HW2, HW3⟩
  try dsimp only
  rw [wp_bind]
  iapply (run8 I K c)
  isplitl [HW2 HW3]
  · isplitr; · iexact HK
    isplitl [HW2]; · iexact HW2
    iexact HW3
  iintro ⟨HW2, HW3⟩
  try dsimp only
  rw [wp_bind]
  iapply (run9 I K c _)
  isplitl [HA4 HA5 HA6 HA7 HD4 HT4 HO]
  · isplitr; · iexact HK
    isplitl [HA4]; · iexact HA4
    isplitl [HA5]; · iexact HA5
    isplitl [HA6]; · iexact HA6
    isplitl [HA7]; · iexact HA7
    isplitl [HD4]; · iexact HD4
    isplitl [HT4]; · iexact HT4
    iexact HO
  iintro ⟨HA5, HA6, HA7, HT4, HO⟩
  try dsimp only
  rw [wp_bind]
  iapply (run10 I K c _)
  isplitl [HA5 HD5 HT5 HO HA6 HD6 HT6]
  · isplitr; · iexact HK
    isplitl [HA5]; · iexact HA5
    isplitl [HD5]; · iexact HD5
    isplitl [HT5]; · iexact HT5
    isplitl [HO]; · iexact HO
    isplitl [HA6]; · iexact HA6
    isplitl [HD6]; · iexact HD6
    iexact HT6
  iintro ⟨HT5, HO, HT6⟩
  try dsimp only
  rw [wp_bind]
  iapply (run11 I K c _ _)
  isplitl [HA7 HD7 HT7 HO HR0 HB0]
  · isplitr; · iexact HK
    isplitl [HA7]; · iexact HA7
    isplitl [HD7]; · iexact HD7
    isplitl [HT7]; · iexact HT7
    isplitl [HO]; · iexact HO
    isplitl [HR0]; · iexact HR0
    iexact HB0
  iintro ⟨HT7, HO, HR0, HC0, HB0⟩
  try dsimp only
  rw [wp_bind]
  iapply (run12 I K c _ _)
  isplitl [HB0 HD8 HT8 HO HR1 HB1 HD9 HT9]
  · isplitr; · iexact HK
    isplitl [HB0]; · iexact HB0
    isplitl [HD8]; · iexact HD8
    isplitl [HT8]; · iexact HT8
    isplitl [HO]; · iexact HO
    isplitl [HR1]; · iexact HR1
    isplitl [HB1]; · iexact HB1
    isplitl [HD9]; · iexact HD9
    iexact HT9
  iintro ⟨HT8, HO, HR1, HC1, HT9⟩
  try dsimp only
  rw [wp_bind]
  iapply (run13 I K c _ _)
  isplitl [HR2 HO HB2 HD10 HT10]
  · isplitr; · iexact HK
    isplitl [HR2]; · iexact HR2
    isplitl [HO]; · iexact HO
    isplitl [HB2]; · iexact HB2
    isplitl [HD10]; · iexact HD10
    iexact HT10
  iintro ⟨HR2, HO, HC2, HT10⟩
  try dsimp only
  rw [wp_bind]
  iapply (run14 I K c _ _ _)
  isplitl [HR3 HO HB3 HD11 HT11]
  · isplitr; · iexact HK
    isplitl [HR3]; · iexact HR3
    isplitl [HO]; · iexact HO
    isplitl [HB3]; · iexact HB3
    isplitl [HD11]; · iexact HD11
    iexact HT11
  iintro ⟨HR3, HO, HC3, HT11⟩
  try dsimp only
  rw [wp_bind]
  iapply (run15 I K c _ _)
  isplitl [HR4 HO HB4 HD12 HT12]
  · isplitr; · iexact HK
    isplitl [HR4]; · iexact HR4
    isplitl [HO]; · iexact HO
    isplitl [HB4]; · iexact HB4
    isplitl [HD12]; · iexact HD12
    iexact HT12
  iintro ⟨HR4, HO, HC4, HT12⟩
  try dsimp only
  rw [wp_bind]
  iapply (run16 I K c _ _)
  isplitl [HR5 HO HB5 HD13 HT13 HR6]
  · isplitr; · iexact HK
    isplitl [HR5]; · iexact HR5
    isplitl [HO]; · iexact HO
    isplitl [HB5]; · iexact HB5
    isplitl [HD13]; · iexact HD13
    isplitl [HT13]; · iexact HT13
    iexact HR6
  iintro ⟨HR5, HO, HC5, HT13, HR6, HC6⟩
  try dsimp only
  rw [wp_bind]
  iapply (run17 I K c _ _)
  isplitl [HC6 HB6 HD14 HT14 HO HR7]
  · isplitr; · iexact HK
    isplitl [HC6]; · iexact HC6
    isplitl [HB6]; · iexact HB6
    isplitl [HD14]; · iexact HD14
    isplitl [HT14]; · iexact HT14
    isplitl [HO]; · iexact HO
    iexact HR7
  iintro ⟨HC6, HT14, HO, HR7, HC7⟩
  try dsimp only
  rw [wp_bind]
  iapply (run18 I K c _)
  isplitl [HB7 HD15 HT15 HO HR8 HU0]
  · isplitr; · iexact HK
    isplitl [HB7]; · iexact HB7
    isplitl [HD15]; · iexact HD15
    isplitl [HT15]; · iexact HT15
    isplitl [HO]; · iexact HO
    isplitl [HR8]; · iexact HR8
    iexact HU0
  iintro ⟨HT15, HO, HR8, HC8, HU0⟩
  try dsimp only
  rw [wp_bind]
  iapply (run19 I K c _)
  isplitl [HR9 HO HU1 HR10]
  · isplitr; · iexact HK
    isplitl [HR9]; · iexact HR9
    isplitl [HO]; · iexact HO
    isplitl [HU1]; · iexact HU1
    iexact HR10
  iintro ⟨HR9, HO, HC9, HU1, HR10, HC10⟩
  try dsimp only
  rw [wp_bind]
  iapply (run20 I K c _)
  isplitl [HU2 HR11 HO HU3 HR12]
  · isplitr; · iexact HK
    isplitl [HU2]; · iexact HU2
    isplitl [HR11]; · iexact HR11
    isplitl [HO]; · iexact HO
    isplitl [HU3]; · iexact HU3
    iexact HR12
  iintro ⟨HU2, HR11, HO, HC11, HU3, HR12, HC12⟩
  try dsimp only
  rw [wp_bind]
  iapply (run21 I K c _)
  isplitl [HU4 HR13 HO HU5 HR14]
  · isplitr; · iexact HK
    isplitl [HU4]; · iexact HU4
    isplitl [HR13]; · iexact HR13
    isplitl [HO]; · iexact HO
    isplitl [HU5]; · iexact HU5
    iexact HR14
  iintro ⟨HU4, HR13, HO, HC13, HU5, HR14, HC14⟩
  try dsimp only
  rw [wp_bind]
  iapply (run22 I K c _)
  isplitl [HU6 HR15 HO HU7 HT0]
  · isplitr; · iexact HK
    isplitl [HU6]; · iexact HU6
    isplitl [HR15]; · iexact HR15
    isplitl [HO]; · iexact HO
    isplitl [HU7]; · iexact HU7
    iexact HT0
  iintro ⟨HU6, HR15, HO, HC15, HU7, HT0, HA0⟩
  try dsimp only
  rw [wp_bind]
  iapply (run23 I K c)
  isplitl [HT1 HO HT2 HT3 HT4]
  · isplitr; · iexact HK
    isplitl [HT1]; · iexact HT1
    isplitl [HO]; · iexact HO
    isplitl [HT2]; · iexact HT2
    isplitl [HT3]; · iexact HT3
    iexact HT4
  iintro ⟨HT1, HO, HA1, HT2, HA2, HT3, HA3, HT4, HA4⟩
  try dsimp only
  rw [wp_bind]
  iapply (run24 I K c)
  isplitl [HT5 HO HT6 HT7]
  · isplitr; · iexact HK
    isplitl [HT5]; · iexact HT5
    isplitl [HO]; · iexact HO
    isplitl [HT6]; · iexact HT6
    iexact HT7
  iintro ⟨HT5, HO, HA5, HT6, HA6, HT7, HA7⟩
  try dsimp only
  rw [wp_bind]
  iapply (run25 I K c)
  isplitl [HT8 HO HT9 HT10 HT11]
  · isplitr; · iexact HK
    isplitl [HT8]; · iexact HT8
    isplitl [HO]; · iexact HO
    isplitl [HT9]; · iexact HT9
    isplitl [HT10]; · iexact HT10
    iexact HT11
  iintro ⟨HT8, HO, HB0, HT9, HB1, HT10, HB2, HT11, HB3⟩
  try dsimp only
  simp only [Prog.lift, Prog.bind_op, Prog.bind_ret, Prog.pure_eq_ret, Prog.bind_assoc]
  iapply (wp_sent (sent I) K c 12 4 (A := bufB) (credit_B 4)) $$ [HT12 HO]
  · isplitr; · iexact HK
    isplitl [HT12]; · iexact HT12
    iexact HO
  iintro ⟨HO, HT12, HB4⟩
  iapply (wp_sent (sent I) K c 13 5 (A := bufB) (credit_B 5)) $$ [HT13 HO]
  · isplitr; · iexact HK
    isplitl [HT13]; · iexact HT13
    iexact HO
  iintro ⟨HO, HT13, HB5⟩
  rw [wp_ret]; imodintro
  try simp only [Prog.lift, Prog.bind_op, Prog.bind_ret, Prog.pure_eq_ret, Prog.bind_assoc]
  iapply (wp_sent (sent I) K c 14 6 (A := bufB) (credit_B 6)) $$ [HT14 HO]
  · isplitr; · iexact HK
    isplitl [HT14]; · iexact HT14
    iexact HO
  iintro ⟨HO, HT14, HB6⟩
  iapply (wp_sent (sent I) K c 15 7 (A := bufB) (credit_B 7)) $$ [HT15 HO]
  · isplitr; · iexact HK
    isplitl [HT15]; · iexact HT15
    iexact HO
  iintro ⟨HO, HT15, HB7⟩
  rw [wp_ret]; imodintro
  iapply Hk
  isplitl [HW0]; · iexact HW0
  isplitl [HW1]; · iexact HW1
  isplitl [HW2]; · iexact HW2
  isplitl [HW3]; · iexact HW3
  isplitl [HW4]; · iexact HW4
  isplitl [HA0 HA1 HA2 HA3 HA4 HA5 HA6 HA7 HB0 HB1 HB2 HB3 HB4 HB5 HB6 HB7]
  · iapply (Entails.of_eq (fam16 _).symm)
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    iexact HB7
  isplitl [HC0 HC1 HC2 HC3 HC4 HC5 HC6 HC7 HC8 HC9 HC10 HC11 HC12 HC13 HC14 HC15]
  · iapply (Entails.of_eq (fam16 _).symm)
    isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    iexact HC15
  isplitl [HU0 HU1 HU2 HU3 HU4 HU5 HU6 HU7]
  · iapply (Entails.of_eq (fam8 _).symm)
    isplitl [HU0]; · iexact HU0
    isplitl [HU1]; · iexact HU1
    isplitl [HU2]; · iexact HU2
    isplitl [HU3]; · iexact HU3
    isplitl [HU4]; · iexact HU4
    isplitl [HU5]; · iexact HU5
    isplitl [HU6]; · iexact HU6
    iexact HU7
  isplitl [HT0 HT1 HT2 HT3 HT4 HT5 HT6 HT7 HT8 HT9 HT10 HT11 HT12 HT13 HT14 HT15]
  · iapply (Entails.of_eq (fam16 _).symm)
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    iexact HT15
  isplitl [HR0 HR1 HR2 HR3 HR4 HR5 HR6 HR7 HR8 HR9 HR10 HR11 HR12 HR13 HR14 HR15]
  · iapply (Entails.of_eq (fam16 _).symm)
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  isplitl [HBw]; · iexact HBw
  iexact HO

end Parts

end Cert.KernelIdeal.Exchange

end
-- ==== Proof.Geometry.lean ====
/-
# The buffers cut into chunks

The send buffers, the landing buffer and the result's staging buffer are cut into the chunks the body exchanges, and
joined back. The result joined from its eight chunks of 32 rows is named here as one array.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The families of rectangles -/

section Families

variable (c : Dev nD)

theorem mem_r8 (k : Fin 8) (i : S8x32x512.Idx) : i ∈ (r8 k).set ↔ (i 0).val = k.val := by
  rw [Rect.mem_set_unit]
  constructor
  · intro h
    have h0 : k.val ≤ (i 0).val ∧ (i 0).val < k.val + 1 := h 0
    omega
  · intro h a
    fin_cases a
    · show k.val ≤ (i 0).val ∧ (i 0).val < k.val + 1; omega
    · show 0 ≤ (i 1).val ∧ (i 1).val < 0 + 32; exact ⟨Nat.zero_le _, by have : (i 1).val < 32 := (i 1).isLt; omega⟩
    · show 0 ≤ (i 2).val ∧ (i 2).val < 0 + 512; exact ⟨Nat.zero_le _, by have : (i 2).val < 512 := (i 2).isLt; omega⟩

theorem mem_r16 (k : Fin 16) (i : S16x32x512.Idx) : i ∈ (r16 k).set ↔ (i 0).val = k.val := by
  rw [Rect.mem_set_unit]
  constructor
  · intro h
    have h0 : k.val ≤ (i 0).val ∧ (i 0).val < k.val + 1 := h 0
    omega
  · intro h a
    fin_cases a
    · show k.val ≤ (i 0).val ∧ (i 0).val < k.val + 1; omega
    · show 0 ≤ (i 1).val ∧ (i 1).val < 0 + 32; exact ⟨Nat.zero_le _, by have : (i 1).val < 32 := (i 1).isLt; omega⟩
    · show 0 ≤ (i 2).val ∧ (i 2).val < 0 + 512; exact ⟨Nat.zero_le _, by have : (i 2).val < 512 := (i 2).isLt; omega⟩

theorem mem_rO (k : Fin 8) (i : S256x512.Idx) : i ∈ (rO k).set ↔ (i 0).val / 32 = k.val := by
  rw [Rect.mem_set_unit]
  constructor
  · intro h
    have h0 : 32 * k.val ≤ (i 0).val ∧ (i 0).val < 32 * k.val + 32 := h 0
    omega
  · intro h a
    fin_cases a
    · show 32 * k.val ≤ (i 0).val ∧ (i 0).val < 32 * k.val + 32; omega
    · show 0 ≤ (i 1).val ∧ (i 1).val < 0 + 512; exact ⟨Nat.zero_le _, by have : (i 1).val < 512 := (i 1).isLt; omega⟩

/-- Rectangles that are the fibres of a function on the indices are disjoint. -/
theorem fibre_disjoint {s : Shape} {n : ℕ} (R : Fin n → Rect s) (key : s.Idx → ℕ) (h : ∀ k i, i ∈ (R k).set ↔ key i = k.val)
    (k k' : Fin n) (hk : k ≠ k') : Disjoint (R k).set (R k').set :=
  Finset.disjoint_left.mpr fun i h1 h2 => hk (Fin.ext (((h k i).mp h1).symm.trans ((h k' i).mp h2)))

/-- Rectangles that are all the fibres of a function on the indices cover. -/
theorem fibre_cover {s : Shape} {n : ℕ} (R : Fin n → Rect s) (key : s.Idx → ℕ) (h : ∀ k i, i ∈ (R k).set ↔ key i = k.val)
    (hlt : ∀ i, key i < n) : Finset.univ.biUnion (fun k => (R k).set) = Finset.univ :=
  Finset.eq_univ_iff_forall.mpr fun i => Finset.mem_biUnion.mpr ⟨⟨key i, hlt i⟩, Finset.mem_univ _, (h _ i).mpr rfl⟩

theorem disj_A (k k' : Fin 8) (h : k ≠ k') : Disjoint (part c bufA r8 k) (part c bufA r8 k') := by
  show Disjoint ((View.whole cc0_scratch0).slice (r8 k)).set ((View.whole cc0_scratch0).slice (r8 k')).set
  rw [View.set_slice_whole, View.set_slice_whole]; exact fibre_disjoint r8 (fun i => (i 0).val) mem_r8 k k' h
theorem disj_B (k k' : Fin 8) (h : k ≠ k') : Disjoint (part c bufB r8 k) (part c bufB r8 k') := by
  show Disjoint ((View.whole cc0_scratch1).slice (r8 k)).set ((View.whole cc0_scratch1).slice (r8 k')).set
  rw [View.set_slice_whole, View.set_slice_whole]; exact fibre_disjoint r8 (fun i => (i 0).val) mem_r8 k k' h
theorem disj_C (k k' : Fin 16) (h : k ≠ k') : Disjoint (part c comm r16 k) (part c comm r16 k') := by
  show Disjoint ((View.whole cc0_scratch2).slice (r16 k)).set ((View.whole cc0_scratch2).slice (r16 k')).set
  rw [View.set_slice_whole, View.set_slice_whole]; exact fibre_disjoint r16 (fun i => (i 0).val) mem_r16 k k' h
theorem disj_O (k k' : Fin 8) (h : k ≠ k') : Disjoint (part c outM rO k) (part c outM rO k') := by
  show Disjoint ((View.whole cc0_stg5_0).slice (rO k)).set ((View.whole cc0_stg5_0).slice (rO k')).set
  rw [View.set_slice_whole, View.set_slice_whole]; exact fibre_disjoint rO (fun i => (i 0).val / 32) mem_rO k k' h

theorem cover_A : Finset.univ.biUnion (part c bufA r8) = Finset.univ := by
  rw [show part c bufA r8 = fun k => (r8 k).set from funext fun k => View.set_slice_whole cc0_scratch0 (r8 k)]
  exact fibre_cover r8 (fun i => (i 0).val) mem_r8 fun i => (i 0).isLt
theorem cover_B : Finset.univ.biUnion (part c bufB r8) = Finset.univ := by
  rw [show part c bufB r8 = fun k => (r8 k).set from funext fun k => View.set_slice_whole cc0_scratch1 (r8 k)]
  exact fibre_cover r8 (fun i => (i 0).val) mem_r8 fun i => (i 0).isLt
theorem cover_C : Finset.univ.biUnion (part c comm r16) = Finset.univ := by
  rw [show part c comm r16 = fun k => (r16 k).set from funext fun k => View.set_slice_whole cc0_scratch2 (r16 k)]
  exact fibre_cover r16 (fun i => (i 0).val) mem_r16 fun i => (i 0).isLt
theorem cover_O : Finset.univ.biUnion (part c outM rO) = Finset.univ := by
  rw [show part c outM rO = fun k => (rO k).set from funext fun k => View.set_slice_whole cc0_stg5_0 (rO k)]
  exact fibre_cover rO (fun i => (i 0).val / 32) mem_rO fun i => by have : (i 0).val < 256 := (i 0).isLt; omega

end Families

/-! ## The result as one array -/

/-- The chunk an index of the result lies in, and its place there. -/
def chunkOf (i : S256x512.Idx) : Fin 8 := ⟨(i 0).val / 32, by have : (i 0).val < 256 := (i 0).isLt; omega⟩
def inChunk (i : S256x512.Idx) : S32x512.Idx := fun a => ⟨(![(i 0).val % 32, (i 1).val] : Fin 2 → ℕ) a, by
  fin_cases a
  · show (i 0).val % 32 < 32; omega
  · exact (i 1).isLt⟩

theorem emb_inChunk (i : S256x512.Idx) : (rO (chunkOf i)).emb (inChunk i) = i := by
  funext a
  apply Fin.ext
  fin_cases a
  · show 32 * ((i 0).val / 32) + 1 * ((i 0).val % 32) = (i 0).val; omega
  · show 0 + 1 * (i 1).val = (i 1).val; omega

/-- Device `c`'s result: its eight chunks, one under the other. -/
def outAt (I : Dev nD → Inputs F) (c : Dev nD) : S256x512.Idx → Elt F .bf16 := fun i => outC I c (chunkOf i) (inChunk i)

/-- A buffer whose chunks read the eight chunks of the result holds the result. -/
theorem eq_outAt (I : Dev nD → Inputs F) (c : Dev nD) (g : S256x512.Idx → Elt F .bf16)
    (h : ∀ k, (outM.access (rO k)).read (Elt F) g = outC I c k) : g = outAt I c := by
  funext i
  have hi := congrFun (h (chunkOf i)) (inChunk i)
  rw [View.read_apply] at hi
  rw [show ((outM.access (rO (chunkOf i))).emb (inChunk i) : S256x512.Idx) = i from emb_inChunk i] at hi
  exact hi

/-! ## Sixteen as eight and eight, thirty-two as sixteen and sixteen -/

theorem bigSep_halves {n : ℕ} {M : Type} [URA M] (Φ : Fin (n + n) → sProp M) :
    bigSep Finset.univ Φ = iprop((bigSep Finset.univ fun k : Fin n => Φ (Fin.castAdd n k)) ∗ (bigSep Finset.univ fun k : Fin n => Φ (Fin.natAdd n k))) := by
  rw [bigSep_univ_equiv (finSumFinEquiv (m := n) (n := n)) Φ, bigSep_univ_sum]
  rfl

/-- The sources of the sixteen transfers are the two send buffers' chunks. -/
theorem srcPieces (V : Dev nD → Fin 16 → Chunk F) (c : Dev nD) :
    (bigSep Finset.univ fun j : Fin 16 => (srcPiece V c j : sProp 𝕄))
      = iprop((bigSep Finset.univ fun k : Fin 8 => piece c bufA (r8 k) (V c (Fin.castAdd 8 k)))
          ∗ (bigSep Finset.univ fun k : Fin 8 => piece c bufB (r8 k) (V c (Fin.natAdd 8 k)))) := by
  rw [show (bigSep Finset.univ fun j : Fin 16 => (srcPiece V c j : sProp 𝕄)) = bigSep Finset.univ (fun j : Fin (8 + 8) => (srcPiece V c j : sProp 𝕄)) from rfl,
    bigSep_halves]
  refine congrArg₂ BI.BIBase.sep (BI.bigSep_congr fun k _ => ?_) (BI.bigSep_congr fun k _ => ?_)
  · unfold srcPiece; rw [dif_pos (show (Fin.castAdd 8 k).val < 8 from k.isLt)]; rfl
  · unfold srcPiece
    rw [dif_neg (show ¬ (Fin.natAdd 8 k).val < 8 by simp)]
    have e : (⟨(Fin.natAdd 8 k).val - 8, by have := k.isLt; simp⟩ : Fin 8) = k := Fin.ext (by simp)
    rw [e]

/-- A whole buffer at any contents, named by its device and itself. -/
def anyBuf (c : Dev nD) (b : Ref sig .tc) : sProp 𝕄 := iprop(∃ f : Buf (Elt F) ((c : Thread nD τ).loc b), ((c : Thread nD τ).loc b) ↦{fullShare} f)

theorem cutA (c : Dev nD) : anyBuf (F := F) c cc0_scratch0 ⊢ bigSep Finset.univ fun k : Fin 8 => slot (F := F) c bufA (r8 k) := by
  unfold anyBuf; iintro ⟨%f, H⟩; iapply (cut c bufA r8 (disj_A c) (cover_A c) f); iexact H
theorem cutB (c : Dev nD) : anyBuf (F := F) c cc0_scratch1 ⊢ bigSep Finset.univ fun k : Fin 8 => slot (F := F) c bufB (r8 k) := by
  unfold anyBuf; iintro ⟨%f, H⟩; iapply (cut c bufB r8 (disj_B c) (cover_B c) f); iexact H
theorem cutC (c : Dev nD) : anyBuf (F := F) c cc0_scratch2 ⊢ bigSep Finset.univ fun k : Fin 16 => slot (F := F) c comm (r16 k) := by
  unfold anyBuf; iintro ⟨%f, H⟩; iapply (cut c comm r16 (disj_C c) (cover_C c) f); iexact H
theorem cutO (c : Dev nD) : anyBuf (F := F) c cc0_stg5_0 ⊢ bigSep Finset.univ fun k : Fin 8 => slot (F := F) c outM (rO k) := by
  unfold anyBuf; iintro ⟨%f, H⟩; iapply (cut c outM rO (disj_O c) (cover_O c) f); iexact H

theorem joinA (c : Dev nD) (X : Fin 8 → Chunk F) (e : Elt F .bf16) :
    (bigSep Finset.univ fun k : Fin 8 => piece c bufA (r8 k) (X k)) ⊢ anyBuf (F := F) c cc0_scratch0 := by
  unfold anyBuf; iintro H
  ihave H := (join c bufA r8 (disj_A c) (cover_A c) X (fun _ => e)) $$ H
  icases H with ⟨%g, -, H⟩; iexists g; iexact H
theorem joinB (c : Dev nD) (X : Fin 8 → Chunk F) (e : Elt F .bf16) :
    (bigSep Finset.univ fun k : Fin 8 => piece c bufB (r8 k) (X k)) ⊢ anyBuf (F := F) c cc0_scratch1 := by
  unfold anyBuf; iintro H
  ihave H := (join c bufB r8 (disj_B c) (cover_B c) X (fun _ => e)) $$ H
  icases H with ⟨%g, -, H⟩; iexists g; iexact H
theorem joinC (c : Dev nD) (X : Fin 16 → Chunk F) (e : Elt F .bf16) :
    (bigSep Finset.univ fun k : Fin 16 => piece c comm (r16 k) (X k)) ⊢ anyBuf (F := F) c cc0_scratch2 := by
  unfold anyBuf; iintro H
  ihave H := (join c comm r16 (disj_C c) (cover_C c) X (fun _ => e)) $$ H
  icases H with ⟨%g, -, H⟩; iexists g; iexact H
/-- The result's staging buffer joined from its chunks. -/
theorem joinO (I : Dev nD → Inputs F) (c : Dev nD) :
    (bigSep Finset.univ fun k : Fin 8 => piece c outM (rO k) (outC I c k))
      ⊢ ((((c : Thread nD τ).loc cc0_stg5_0) ↦{fullShare} outAt I c) : sProp 𝕄) := by
  iintro H
  ihave H := (join c outM rO (disj_O c) (cover_O c) (outC I c) (outAt I c)) $$ H
  icases H with ⟨%g, %hg, H⟩
  rw [← eq_outAt I c g hg]; iexact H

end Cert.KernelIdeal.Exchange

end
-- ==== Proof.Region.lean ====
/-
# The region: the body run as the pipeline runs it

The proof data of the one kernel region, the body's obligation at its one point, and the record of the region: the cells of
the exchange are opened on entry, the body runs on whole staging buffers and scratch buffers, every cell is closed at zero
and the buffers are whole again on exit.
-/
module

public import proofs.«01_k».proof.Proof.Geometry

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The blocks device `c`'s body reads, after the host operations before the region. -/
def ins (c : Dev nD) : Inputs F where
  x := V1 m c main_v17
  wq := V1 m c main_v11
  k := V1 m c main_arg2
  v := V1 m c main_arg3
  wo := V1 m c main_v16

/-- What every transfer carries. -/
abbrev VV : Dev nD → Fin 16 → Chunk F := sent (ins m)

/-! ## What enters the region and what leaves it -/

/-- The exchange's share of device `c` at launch, its transfer cells not yet opened. -/
def Tk (c : Dev nD) : sProp 𝕄 := iprop(∃ K, known (VV m) K
  ∗ (bigSep Finset.univ fun i : Fin (16 + 16) => openTok ER ((c : Thread nD τ), osem i))
  ∗ (bigSep Finset.univ fun j : Fin 16 => dutyTok ER (sCell c j) 0 false)
  ∗ (bigSep Finset.univ fun j : Fin 16 => dutyTok ER (rCell (pt j c) j) 0 false)
  ∗ (bigSep Finset.univ fun j : Fin 16 => cred (tallyAt (rCell c j) () N))
  ∗ (cred (tallyAt (barCell c) () 2) ∗ atPos ER (barCell c) 0 ∅ 0)
  ∗ dutyTok ER (barCell (p1 c)) 0 false ∗ dutyTok ER (barCell (p2 c)) 0 true)

/-- The same with every transfer cell open. -/
def Xk (c : Dev nD) : sProp 𝕄 := iprop(∃ K, known (VV m) K
  ∗ (bigSep Finset.univ fun j : Fin 16 => tx (F := F) c j) ∗ (bigSep Finset.univ fun j : Fin 16 => rx (F := F) c j)
  ∗ (bigSep Finset.univ fun j : Fin 16 => reached ER (rCell c j) 0)
  ∗ (cred (tallyAt (barCell c) () 2) ∗ atPos ER (barCell c) 0 ∅ 0)
  ∗ dutyTok ER (barCell (p1 c)) 0 false ∗ dutyTok ER (barCell (p2 c)) 0 true)

/-- The barrier's counter back at zero. -/
def Yk (c : Dev nD) : sProp 𝕄 := semVal (barCell c) 0

/-- The scratch buffers, whole, at any contents. -/
def scratch (c : Dev nD) : sProp 𝕄 := iprop(anyBuf (F := F) c cc0_scratch0 ∗ anyBuf (F := F) c cc0_scratch1 ∗ anyBuf (F := F) c cc0_scratch2)

theorem osem_s (c : Dev nD) (j : Fin 16) : (((c : Thread nD τ), osem (Fin.castAdd 16 j)) : GSem nD τ sig) = sCell c j := rfl
theorem osem_r (c : Dev nD) (j : Fin 16) : (((c : Thread nD τ), osem (Fin.natAdd 16 j)) : GSem nD τ sig) = rCell c j :=
  Prod.ext rfl (congrArg SemLoc.dma (Fin.ext (show 6 + (16 + j.val) = 22 + j.val by omega)))

/-- A family over the thirty-two transfer cells of a device is one over its send cells and one over its receive cells. -/
theorem own_cells (c : Dev nD) (Φ : GSem nD τ sig → sProp 𝕄) :
    (bigSep Finset.univ fun i : Fin (16 + 16) => Φ ((c : Thread nD τ), osem i))
      = iprop((bigSep Finset.univ fun j : Fin 16 => Φ (sCell c j)) ∗ (bigSep Finset.univ fun j : Fin 16 => Φ (rCell c j))) := by
  rw [bigSep_halves]
  refine congrArg₂ BI.BIBase.sep (BI.bigSep_congr fun j _ => by rw [osem_s]) (BI.bigSep_congr fun j _ => by rw [osem_r])

theorem own_mem (c : Dev nD) (i : Fin (16 + 16)) : (((c : Thread nD τ), osem i) : GSem nD τ sig) ∈ scCells :=
  Finset.mem_map.mpr ⟨(c, i), Finset.mem_univ _, rfl⟩

/-- The invariants of a device's transfer cells. -/
theorem known_own (V : Dev nD → Fin 16 → Chunk F) (K : GSem nD τ sig → ℕ) (c : Dev nD) :
    known V K ⊢ bigSep Finset.univ fun i : Fin (16 + 16) => cellInv ER (Rd V) (K ((c : Thread nD τ), osem i)) ((c : Thread nD τ), osem i) :=
  (BI.bigSep_of_persistent (S := (Finset.univ : Finset (Fin (16 + 16)))) (known V K)).trans (BI.bigSep_mono fun i _ => known_sc V K _ (own_mem c i))

/-- On entry, with the counters of the transfer semaphores at zero, the transfer cells are opened. -/
theorem hopen (c : Dev nD) : iprop(Tk m c ∗ Pipeline.ownSems0 (osem : Fin (16 + 16) → SemLoc sig) c ∗ levAts L lv) ⊢ (|={Set.univ}=> Xk m c : sProp 𝕄) := by
  unfold Tk Xk Pipeline.ownSems0
  iintro ⟨⟨%K, #HK, Hop, Hts, Htr, Hcr, Hbar, Hb1, Hb2⟩, Hsem, -⟩
  ihave Hinv := (known_own (VV m) K c) $$ HK
  imod (Rounds.cells_open ER (Rd (VV m)) (Finset.univ : Finset (Fin (16 + 16))) (fun i => ((c : Thread nD τ), osem i))
    (fun i => K ((c : Thread nD τ), osem i)) (fun _ _ => Set.mem_univ _)) $$ [Hinv Hop Hsem] with H
  · rw [bigSep_sep']
    isplitl [Hinv Hop]
    · isplitl [Hinv] <;> iassumption
    · iexact Hsem
  ihave H := (Entails.of_eq (own_cells c (fun g => iprop(atPos ER g 0 ∅ 0 ∗ reached ER g 0)))) $$ H
  rw [bigSep_sep', bigSep_sep']
  icases H with ⟨⟨Has, Hrs⟩, ⟨Har, Hrr⟩⟩
  imodintro
  iexists K
  isplitr; · iexact HK
  isplitl [Hts Htr Has Hrs]
  · unfold tx rights
    rw [bigSep_sep', bigSep_sep', bigSep_sep']
    isplitr [Has]
    · isplitl [Hts]; · iexact Hts
      isplitl [Hrs]; · iexact Hrs
      iexact Htr
    · iexact Has
  isplitl [Hcr Har]
  · unfold rx
    rw [bigSep_sep']
    isplitl [Hcr] <;> iassumption
  isplitl [Hrr]; · iexact Hrr
  isplitl [Hbar]; · iexact Hbar
  isplitl [Hb1] <;> iassumption

/-- At the end of the body every cell of the device is closed, its counter at zero. -/
theorem close_all (V : Dev nD → Fin 16 → Chunk F) (K : GSem nD τ sig → ℕ) (c : Dev nD) :
    iprop(known V K ∗ (bigSep Finset.univ fun j : Fin 16 => sdone (F := F) c j) ∗ (bigSep Finset.univ fun j : Fin 16 => rdone (F := F) c j)
        ∗ atPos ER (barCell c) (0 + 1) ∅ 0)
      ⊢ (|={Set.univ}=> iprop(Yk c ∗ Pipeline.ownSems0 (osem : Fin (16 + 16) → SemLoc sig) c) : sProp 𝕄) := by
  unfold Yk Pipeline.ownSems0
  iintro ⟨#HK, Hs, Hr, Hb⟩
  ihave Hinv := (known_own V K c) $$ HK
  ihave #HI := (known_bar V K c) $$ HK
  imod (Rounds.cell_close ER (Rd V) (Set.mem_univ (K (barCell c))) (fun h => h) (R := 0 + 1) (duties_later V (barCell c))) $$ [Hb] with Hz
  · isplitr; · iexact HI
    iexact Hb
  imod (Rounds.cells_close ER (Rd V) (Finset.univ : Finset (Fin (16 + 16))) (fun i => ((c : Thread nD τ), osem i))
    (fun i => K ((c : Thread nD τ), osem i)) (fun _ _ => Set.mem_univ _) (fun _ _ h => h) (fun _ => 0 + 1) (fun i _ => duties_later V _)) $$ [Hinv Hs Hr] with Hw
  · rw [bigSep_sep']
    isplitl [Hinv]; · iexact Hinv
    iapply (Entails.of_eq (own_cells c (fun g => atPos ER g (0 + 1) ∅ 0)).symm)
    unfold sdone rdone
    isplitl [Hs] <;> iassumption
  imodintro
  isplitl [Hz] <;> iassumption

/-- The landing slots of the device itself, as it hands them to its two partners. -/
theorem own_slots (c : Dev nD) :
    iprop(anyBuf (F := F) c cc0_scratch2 ∗ (bigSep Finset.univ fun j : Fin 16 => (reached ER (rCell c j) 0 : sProp 𝕄)))
      ⊢ iprop((bigSep Finset.univ fun i : Fin 8 => openSlot (F := F) c (Fin.castAdd 8 i)) ∗ (bigSep Finset.univ fun i : Fin 8 => openSlot (F := F) c (Fin.natAdd 8 i))) := by
  refine BI.Entails.trans ?_ (Entails.of_eq (bigSep_halves (n := 8) (fun j : Fin (8 + 8) => openSlot (F := F) c j)))
  show _ ⊢ (bigSep Finset.univ fun j : Fin 16 => openSlot (F := F) c j)
  unfold openSlot
  rw [bigSep_sep']
  iintro ⟨H, Hr⟩
  isplitl [H]
  · iapply (cutC c); iexact H
  · iexact Hr

/-! ## The whole body on whole buffers -/

/-- The body on whole buffers: from the inputs' staging buffers, the result's at any contents, the scratch buffers and the
    device's share of the exchange, to the result in its staging buffer, every cell closed and nothing owed. -/
theorem wholeRun (c : Dev nD) {Q : PUnit → sProp (MT nD τ sig Unit (Elt F) ℕ UU ℕ)} :
    iprop((Xk m c ∗ scratch (F := F) c ∗ (win c stg0 (ins m c).x ∗ win c stg1 (ins m c).wq ∗ win c stg2 (ins m c).k ∗ win c stg3 (ins m c).v ∗ win c stg4 (ins m c).wo)
          ∗ anyBuf (F := F) c cc0_stg5_0 ∗ (∃ W, owes (c : Thread nD τ) (O₀ c) W))
        ∗ (((Yk c ∗ Pipeline.ownSems0 (osem : Fin (16 + 16) → SemLoc sig) c ∗ scratch (F := F) c)
            ∗ (win c stg0 (ins m c).x ∗ win c stg1 (ins m c).wq ∗ win c stg2 (ins m c).k ∗ win c stg3 (ins m c).v ∗ win c stg4 (ins m c).wo)
            ∗ (((c : Thread nD τ).loc cc0_stg5_0) ↦{fullShare} outAt (ins m) c) ∗ (∃ W, owes (c : Thread nD τ) (0 : CellTallies nD τ sig Unit) W)) -∗ Q ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4) Q := by
  unfold Xk scratch
  iintro ⟨⟨⟨%K, #HK, Htx, Hrx, Hrr, Hbar, Hb1, Hb2⟩, ⟨HA, HB, HC⟩, ⟨H0, H1, H2, H3, H4⟩, HOut, HO⟩, Hk⟩
  ihave HA := (cutA c) $$ HA
  ihave HB := (cutB c) $$ HB
  ihave HOut := (cutO c) $$ HOut
  ihave HS := (own_slots c) $$ [HC Hrr]
  · isplitl [HC] <;> iassumption
  icases HS with ⟨HS1, HS2⟩
  iapply wp_fupd
  iapply (runBody (ins m) K c)
  isplitr [Hk]
  · isplitr; · iexact HK
    isplitl [H0]; · iexact H0
    isplitl [H1]; · iexact H1
    isplitl [H2]; · iexact H2
    isplitl [H3]; · iexact H3
    isplitl [H4]; · iexact H4
    isplitl [HA]; · iexact HA
    isplitl [HB]; · iexact HB
    isplitl [HOut]; · iexact HOut
    isplitl [Htx]; · iexact Htx
    isplitl [Hrx]; · iexact Hrx
    isplitl [Hbar]; · iexact Hbar
    isplitl [Hb1 HS1]; · isplitl [Hb1] <;> iassumption
    isplitl [Hb2 HS2]; · isplitl [Hb2] <;> iassumption
    iexact HO
  iintro ⟨H0, H1, H2, H3, H4, Hsrc, HC, HOut, Hsd, Hrd, Hbar, How⟩
  imod (close_all (VV m) K c) $$ [Hsd Hrd Hbar] with ⟨HY, Hown⟩
  · isplitr; · iexact HK
    isplitl [Hsd]; · iexact Hsd
    isplitl [Hrd] <;> iassumption
  imodintro
  iapply Hk
  ihave Hsrc := (Entails.of_eq (srcPieces (VV m) c)) $$ Hsrc
  icases Hsrc with ⟨HA, HB⟩
  isplitl [HY Hown HA HB HC]
  · isplitl [HY]; · iexact HY
    isplitl [Hown]; · iexact Hown
    isplitl [HA]; · iapply (joinA c (fun k => VV m c (Fin.castAdd 8 k)) (outAt (ins m) c (fun a => ⟨0, by fin_cases a <;> decide⟩))); iexact HA
    isplitl [HB]; · iapply (joinB c (fun k => VV m c (Fin.natAdd 8 k)) (outAt (ins m) c (fun a => ⟨0, by fin_cases a <;> decide⟩))); iexact HB
    iapply (joinC c (fun j => VV m (pt j c) j) (outAt (ins m) c (fun a => ⟨0, by fin_cases a <;> decide⟩))); iexact HC
  isplitl [H0 H1 H2 H3 H4]
  · isplitl [H0]; · iexact H0
    isplitl [H1]; · iexact H1
    isplitl [H2]; · iexact H2
    isplitl [H3]; · iexact H3
    iexact H4
  isplitl [HOut]; · iapply (joinO (ins m) c); iexact HOut
  unfold ow
  rw [Orem_last]
  iexact How

end Cert.KernelIdeal.Exchange

end
-- ==== Proof.Record.lean ====
/-
# The record of the region

The proof data of the region, the body's obligation at its one point, and the region's record in the form the launch takes.
-/
module

public import proofs.«01_k».proof.Proof.Region
public import Idealize.ShloMosaic.Lib.Pipeline.ValueKit

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the region leaves in the result's array. -/
def outs : Outs (F := F) := fun _ r c => if h : r = main_v18 then h ▸ outAt (ins m) c else V1 m c r

theorem outs_v18 (c : Dev nD) : outs m 2 main_v18 c = outAt (ins m) c := dif_pos rfl

/-- The proof data of the region on device `c`. -/
def dat (c : Dev nD) : Dat τ (Elt F) Unit ℕ UU ℕ cfg0 c where
  A w := V1 m c (Pipeline.arrRef spec0 w)
  after w t := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => outAt (ins m) c
    | ⟨_ + 6, h⟩ => absurd h (Nat.not_lt.2 (Nat.le_add_left _ _))
  Φ t := if t.val = 0 then iprop(Xk m c ∗ scratch (F := F) c ∗ ∃ r, prngReg c r)
    else iprop(Yk (F := F) c ∗ Pipeline.ownSems0 (osem : Fin (16 + 16) → SemLoc sig) c ∗ scratch (F := F) c ∗ ∃ r, prngReg c r)
  q _ := fullShare
  owed t := if t.val = 0 then O₀ c else 0

def pdats : (p : Fin 1) → (c : Dev nD) → Dat τ (Elt F) Unit ℕ UU ℕ (cfgs p) c := fun _ c => dat m c

/-! ## The windows' contents -/

theorem block_x (c : Dev nD) (t : Fin cfg0.N) : (dat m c).blockOf 0 t = (ins m c).x := by
  funext y
  show (ins m c).x ((win0_0.rect t).emb y) = (ins m c).x y
  exact congrArg _ (funext fun a => Fin.ext (Pipeline.Window.rect_emb_val_of_index_zero win0_0 t a rfl y))
theorem block_wq (c : Dev nD) (t : Fin cfg0.N) : (dat m c).blockOf 1 t = (ins m c).wq := by
  funext y
  show (ins m c).wq ((win0_1.rect t).emb y) = (ins m c).wq y
  exact congrArg _ (funext fun a => Fin.ext (Pipeline.Window.rect_emb_val_of_index_zero win0_1 t a rfl y))
theorem block_k (c : Dev nD) (t : Fin cfg0.N) : (dat m c).blockOf 2 t = (ins m c).k := by
  funext y
  show (ins m c).k ((win0_2.rect t).emb y) = (ins m c).k y
  exact congrArg _ (funext fun a => Fin.ext (Pipeline.Window.rect_emb_val_of_index_zero win0_2 t a rfl y))
theorem block_v (c : Dev nD) (t : Fin cfg0.N) : (dat m c).blockOf 3 t = (ins m c).v := by
  funext y
  show (ins m c).v ((win0_3.rect t).emb y) = (ins m c).v y
  exact congrArg _ (funext fun a => Fin.ext (Pipeline.Window.rect_emb_val_of_index_zero win0_3 t a rfl y))
theorem block_wo (c : Dev nD) (t : Fin cfg0.N) : (dat m c).blockOf 4 t = (ins m c).wo := by
  funext y
  show (ins m c).wo ((win0_4.rect t).emb y) = (ins m c).wo y
  exact congrArg _ (funext fun a => Fin.ext (Pipeline.Window.rect_emb_val_of_index_zero win0_4 t a rfl y))

theorem before_x (c : Dev nD) (t : Fin cfg0.N) (d) : (dat m c).before 0 t d = (ins m c).x := by
  unfold Dat.before; rw [if_pos (fetch0_0 t)]; unfold Dat.fetched; rw [block_x]; rfl
theorem before_wq (c : Dev nD) (t : Fin cfg0.N) (d) : (dat m c).before 1 t d = (ins m c).wq := by
  unfold Dat.before; rw [if_pos (fetch0_1 t)]; unfold Dat.fetched; rw [block_wq]; rfl
theorem before_k (c : Dev nD) (t : Fin cfg0.N) (d) : (dat m c).before 2 t d = (ins m c).k := by
  unfold Dat.before; rw [if_pos (fetch0_2 t)]; unfold Dat.fetched; rw [block_k]; rfl
theorem before_v (c : Dev nD) (t : Fin cfg0.N) (d) : (dat m c).before 3 t d = (ins m c).v := by
  unfold Dat.before; rw [if_pos (fetch0_3 t)]; unfold Dat.fetched; rw [block_v]; rfl
theorem before_wo (c : Dev nD) (t : Fin cfg0.N) (d) : (dat m c).before 4 t d = (ins m c).wo := by
  unfold Dat.before; rw [if_pos (fetch0_4 t)]; unfold Dat.fetched; rw [block_wo]; rfl

/-- Owning a whole buffer's memref at contents is owning the buffer there. -/
theorem owns_buf (c : Dev nD) (b : Ref sig .tc) (X : b.ty.Contents (Elt F)) :
    (owns c (Memref.whole b) fullShare X : sProp 𝕄) = iprop(∃ f : Buf (Elt F) ((c : Thread nD τ).loc b), ⌜f = X⌝ ∗ ((c : Thread nD τ).loc b) ↦{fullShare} f) := by
  unfold owns
  simp only [Memref.view_whole, View.read_whole, View.set_whole]

theorem owns_elim (c : Dev nD) (b : Ref sig .tc) (X : b.ty.Contents (Elt F)) :
    (owns c (Memref.whole b) fullShare X : sProp 𝕄) ⊢ ((c : Thread nD τ).loc b) ↦{fullShare} X := by
  rw [owns_buf]; iintro ⟨%f, %hf, H⟩; rw [← hf]; iexact H
theorem owns_intro (c : Dev nD) (b : Ref sig .tc) (X : b.ty.Contents (Elt F)) :
    (((c : Thread nD τ).loc b) ↦{fullShare} X : sProp 𝕄) ⊢ owns c (Memref.whole b) fullShare X := by
  rw [owns_buf]; iintro H; iexists X; isplitr; · ipureintro; rfl
  iexact H

/-! ## What is owed around the region -/

theorem owed_pos (c : Dev nD) (t : Fin (cfg0.N + 1)) (h : t.val = 0) : (dat m c).owed t = O₀ c := by
  show (if t.val = 0 then O₀ c else 0) = _; rw [if_pos h]
theorem owed_neg (c : Dev nD) (t : Fin (cfg0.N + 1)) (h : t.val ≠ 0) : (dat m c).owed t = 0 := by
  show (if t.val = 0 then O₀ c else 0) = _; rw [if_neg h]
theorem last_ne : (Fin.last cfg0.N).val ≠ 0 := by rw [Fin.val_last, show cfg0.N = 1 from N_0]; decide
theorem owed_first (c : Dev nD) : (dat m c).owed t0_0.castSucc = O₀ c := owed_pos m c _ rfl
theorem owed_zero (c : Dev nD) : (dat m c).owed 0 = O₀ c := owed_pos m c _ rfl
theorem owed_succ (c : Dev nD) : (dat m c).owed t0_0.succ = 0 := owed_neg m c _ (Nat.succ_ne_zero _)
theorem owed_last (c : Dev nD) : (dat m c).owed (Fin.last _) = 0 := owed_neg m c _ last_ne

theorem owes_in (c : Dev nD) (t : Fin (cfg0.N + 1)) (O : CellTallies nD τ sig Unit) (h0 : (dat m c).owed t = O) :
    iprop(∃ W, owes (c : Thread nD τ) O W) ⊢ ((dat m c).owesAt () t : sProp 𝕄) := by
  unfold Dat.owesAt Pipeline.owesWithin Dat.bound; rw [h0, show (dat m c).recorded t = Set.univ from rfl]
  iintro ⟨%W, HO⟩; iexists W; isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## The body's obligation -/

/-- What device `c` holds before the body, besides the windows. -/
def PhiPre (c : Dev nD) : sProp 𝕄 := iprop(Xk m c ∗ scratch (F := F) c ∗ ∃ r, prngReg c r)
/-- What device `c` holds after the body, besides the windows. -/
def PhiPost (c : Dev nD) : sProp 𝕄 := iprop(Yk (F := F) c ∗ Pipeline.ownSems0 (osem : Fin (16 + 16) → SemLoc sig) c ∗ scratch (F := F) c ∗ ∃ r, prngReg c r)
theorem Phi_pos (c : Dev nD) (t : Fin (cfg0.N + 1)) (h : t.val = 0) : (dat m c).Φ t = PhiPre m c := by
  show (if t.val = 0 then iprop(Xk m c ∗ scratch (F := F) c ∗ ∃ r, prngReg c r) else iprop(Yk (F := F) c ∗ Pipeline.ownSems0 (osem : Fin (16 + 16) → SemLoc sig) c ∗ scratch (F := F) c ∗ ∃ r, prngReg c r)) = _; rw [if_pos h]; rfl
theorem Phi_neg (c : Dev nD) (t : Fin (cfg0.N + 1)) (h : t.val ≠ 0) : (dat m c).Φ t = PhiPost c := by
  show (if t.val = 0 then iprop(Xk m c ∗ scratch (F := F) c ∗ ∃ r, prngReg c r) else iprop(Yk (F := F) c ∗ Pipeline.ownSems0 (osem : Fin (16 + 16) → SemLoc sig) c ∗ scratch (F := F) c ∗ ∃ r, prngReg c r)) = _; rw [if_neg h]; rfl

theorem defs_tc : (defs₀ (F := F)) .tc cfg0.body
    = fun a => cc0_body (win0_0.stage (a.2 0)) (hstage0_0 0) (win0_1.stage (a.2 1)) (hstage0_1 0) (win0_2.stage (a.2 2)) (hstage0_2 0) (win0_3.stage (a.2 3)) (hstage0_3 0)
        (win0_4.stage (a.2 4)) (hstage0_4 0) (win0_5.stage (a.2 5)) (hstage0_5 0) (Memref.whole cc0_scratch0) (Memref.isWhole_whole _) (Memref.whole cc0_scratch1) (Memref.isWhole_whole _)
        (Memref.whole cc0_scratch2) (Memref.isWhole_whole _) cc0_scratch3 cc0_scratch4 := rfl
theorem prog_eq (t : Fin cfg0.N) : (defs₀ (F := F)) .tc cfg0.body (cfg0.bodyArgs t (cfg0.slots t))
    = cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
        (Memref.whole cc0_stg4_0) (Memref.isWhole_whole _) (Memref.whole cc0_stg5_0) (Memref.isWhole_whole _) (Memref.whole cc0_scratch0) (Memref.isWhole_whole _) (Memref.whole cc0_scratch1) (Memref.isWhole_whole _)
        (Memref.whole cc0_scratch2) (Memref.isWhole_whole _) cc0_scratch3 cc0_scratch4 :=
  (congrFun defs_tc _).trans rfl

set_option backward.isDefEq.respectTransparency.types false in
/-- The body at the region's one point meets its obligation. -/
theorem body_ok (c : Dev nD) : BodyObligation (dat m c) (defs₀ (F := F)) 𝒱₀ () Set.univ := fun t => by
  obtain rfl := fin_N0 t
  rw [bigSep_W0, bigSep_W0]
  dsimp only
  simp only [before_x, before_wq, before_k, before_v, before_wo]
  rw [Phi_pos m c _ (rfl : (t0_0.castSucc).val = 0), Phi_neg m c _ (Nat.succ_ne_zero _ : (t0_0.succ).val ≠ 0), prog_eq]; unfold PhiPre PhiPost
  iintro ⟨⟨HX, Hsc, Hreg⟩, HO, ⟨%d0, H0⟩, ⟨%d1, H1⟩, ⟨%d2, H2⟩, ⟨%d3, H3⟩, ⟨%d4, H4⟩, ⟨%d5, H5⟩⟩
  ihave HO := (owes_out m c _ (O₀ c) (owed_first m c)) $$ HO
  iapply (wholeRun m c)
  isplitr [Hreg]
  · isplitl [HX]; · iexact HX
    isplitl [Hsc]; · iexact Hsc
    isplitl [H0 H1 H2 H3 H4]
    · unfold win
      isplitl [H0]; · iapply (owns_elim c cc0_stg0_0 _); iexact H0
      isplitl [H1]; · iapply (owns_elim c cc0_stg1_0 _); iexact H1
      isplitl [H2]; · iapply (owns_elim c cc0_stg2_0 _); iexact H2
      isplitl [H3]; · iapply (owns_elim c cc0_stg3_0 _); iexact H3
      iapply (owns_elim c cc0_stg4_0 _); iexact H4
    isplitl [H5]
    · unfold anyBuf; iexists _; iapply (owns_elim c cc0_stg5_0 _); iexact H5
    iexact HO
  unfold win
  iintro ⟨⟨HY, Hown, Hsc⟩, ⟨H0, H1, H2, H3, H4⟩, H5, HO⟩
  isplitl [HY Hown Hsc Hreg]
  · isplitl [HY]; · iexact HY
    isplitl [Hown]; · iexact Hown
    isplitl [Hsc] <;> iassumption
  isplitl [HO]; · iapply (owes_in m c _ 0 (owed_succ m c)); iexact HO
  isplitl [H0]; · iapply (owns_intro c cc0_stg0_0 _); iexact H0
  isplitl [H1]; · iapply (owns_intro c cc0_stg1_0 _); iexact H1
  isplitl [H2]; · iapply (owns_intro c cc0_stg2_0 _); iexact H2
  isplitl [H3]; · iapply (owns_intro c cc0_stg3_0 _); iexact H3
  isplitl [H4]; · iapply (owns_intro c cc0_stg4_0 _); iexact H4
  iapply (owns_intro c cc0_stg5_0 _); iexact H5

/-! ## The result's array -/

/-- The result's array ends at what the body leaves. -/
theorem arr_out (c : Dev nD) : (dat m c).arrAt 5 cfg0.N = outAt (ins m) c := by
  refine (dat m c).arrAt_eq_of_after_last 5 t0_0 (by decide +kernel) _ (fun j => ?_)
  rfl

theorem arr_in (c : Dev nD) (w : Fin cfg0.W) (hw : w ≠ 5) (n : ℕ) : (dat m c).arrAt w n = V1 m c (Pipeline.arrRef spec0 w) := by
  rw [Dat.arrAt_in]
  · rfl
  · revert w; decide

theorem arr_end (c : Dev nD) (w : Fin cfg0.W) : (dat m c).arrAt w cfg0.N = V2 m (outs m) c (Pipeline.arrRef spec0 w) := by
  by_cases hw : w = 5
  · subst hw
    rw [arr_out]
    show _ = Function.update (V1 m c) (Proc.devRef .tc main_v18) (outs m 2 main_v18 c) (Proc.devRef .tc main_v18)
    rw [Function.update_self, outs_v18]
  · rw [arr_in m c w hw, V2_of m (outs m) c _ (by revert w; decide)]

/-! ## The record -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 (osem : Fin (16 + 16) → SemLoc sig) := by decide

theorem stage_low (c : Dev nD) : ∀ (w : Fin cfg0.W) (s : Fin (cfg0.win w).nbuf), lv ((c : Thread nD τ), .dma ((cfg0.win w).sem s)) () ≤ 0 := by
  intro w s
  show (if 30 ≤ ((cfg0.win w).sem s).val then 3 else if 22 ≤ ((cfg0.win w).sem s).val then 2 else 0) ≤ 0
  revert w; decide

theorem owed_high (c : Dev nD) (t : Fin (cfg0.N + 1)) (g : GSem nD τ sig) (i : Unit) (h : 0 < (dat m c).owed t g i) :
    i ∈ L g ∧ (0 : ℕ) < lv g i := by
  by_cases ht : t.val = 0
  · rw [owed_pos m c t ht] at h
    rcases O₀_pos h with ⟨j, rfl⟩ | rfl | rfl
    · refine ⟨by rw [L_tc]; exact Finset.mem_singleton_self _, ?_⟩
      show 0 < lv (rCell (pt j c) j) (); rw [lv_recv]; split <;> decide
    · exact ⟨by rw [L_tc]; exact Finset.mem_singleton_self _, Nat.one_pos⟩
    · exact ⟨by rw [L_tc]; exact Finset.mem_singleton_self _, Nat.one_pos⟩
  · rw [owed_neg m c t ht] at h; exact absurd h (Nat.lt_irrefl 0)

theorem share_full (c : Dev nD) (w : Fin cfg0.W) : (dat m c).share w = fullShare := by
  unfold Dat.share; split <;> rfl

theorem held_none (c : Dev nD) (W : Valuation τ sig (Elt F)) : (StableHlo.held (c.tc : Thread nD τ) ∅ W : sProp 𝕄) = BI.emp := by
  unfold StableHlo.held; exact BI.bigSep_empty

theorem enter (c : Dev nD) : iprop(Pipeline.scopedRest spec0 c ∗ (∃ r, prngReg c r) ∗ StableHlo.held (c.tc : Thread nD τ) ∅ (V1 m c) ∗ Xk m c)
    ⊢ (dat m c).Φ 0 := by
  rw [Phi_pos m c 0 rfl, scopedRest0_eq]; unfold PhiPre scratch anyBuf
  iintro ⟨⟨⟨%f0, H0⟩, ⟨%f1, H1⟩, ⟨%f2, H2⟩⟩, Hp, -, HX⟩
  isplitl [HX]; · iexact HX
  isplitl [H0 H1 H2]
  · isplitl [H0]; · iexists f0; iexact H0
    isplitl [H1]; · iexists f1; iexact H1
    iexists f2; iexact H2
  iexact Hp

theorem leave (c : Dev nD) : (dat m c).Φ (Fin.last cfg0.N)
    ⊢ iprop(Pipeline.scopedRest spec0 c ∗ (∃ r, prngReg c r) ∗ StableHlo.held (c.tc : Thread nD τ) ∅ (V2 m (outs m) c)
      ∗ Pipeline.ownSems0 (osem : Fin (16 + 16) → SemLoc sig) c ∗ Yk (F := F) c) := by
  rw [Phi_neg m c _ last_ne, scopedRest0_eq, held_none]; unfold PhiPost scratch anyBuf
  iintro ⟨HY, Hown, ⟨⟨%f0, H0⟩, ⟨%f1, H1⟩, ⟨%f2, H2⟩⟩, Hp⟩
  isplitl [H0 H1 H2]
  · isplitl [H0]; · iexists f0; iexact H0
    isplitl [H1]; · iexists f1; iexact H1
    iexists f2; iexact H2
  isplitl [Hp]; · iexact Hp
  isplitr; · iempintro
  isplitl [Hown]; · iexact Hown
  iexact HY

/-- The unscoped buffers that are no window's array. -/
abbrev others : Finset (DevRef τ sig) := Pipeline.ucRefs τ sig \ Pipeline.arrRefs (τ := τ) spec0

theorem others_kept (c : Dev nD) (b : DevRef τ sig) (hb : b ∈ others) : V2 m (outs m) c b = V1 m c b := by
  refine Function.update_of_ne (fun h => ?_) _ _
  refine (Finset.mem_sdiff.mp hb).2 ?_
  rw [h]
  exact Finset.mem_map_of_mem _ (Finset.mem_image_of_mem (Pipeline.arrRef spec0) (Finset.mem_univ (5 : Fin 6)))

set_option backward.isDefEq.respectTransparency.types false in
/-- The record of the region. -/
def R0 : Pipeline.RegionSeg (pcfgs (F := F)) adm (pdats m) () (defs₀ (F := F)) 𝒱₀ L lv 0 :=
  Pipeline.RegionSeg.ofTalk (pcfgs (F := F)) adm (pdats m) () defs₀ 𝒱₀ L lv 0 (osem : Fin (16 + 16) → SemLoc sig) own_facts
    ∅ others (Finset.empty_subset _) kit0 rfl (fun c => (body_ok m c).loose)
    (fun _ => 0) O₀ (fun c => (owed_zero m c).trans (zero_add _).symm) (owed_last m) (fun _ => rfl) (share_full m)
    (V1 m) (V2 m (outs m)) (fun c b hb => others_kept m c b (Finset.mem_sdiff.mp hb).1)
    (Tk m) (Yk (F := F)) (Xk m) (Yk (F := F)) (hopen m) (enter m) (leave m)
    (fun c => by iintro H; imodintro; iexact H)
    (fun _ => 0)
    ⟨fun c w s => by rw [L_tc]; exact Finset.mem_singleton_self _, fun c w s => stage_low c w s, fun c t g i h => owed_high m c t g i h⟩
    (fun _ => iprop(emp))
    (fun _ _ => rfl) (fun c w => arr_end m c w)

/-- What a device holds beside its buffers before the region. -/
def E0 (c : Dev nD) : sProp 𝕄 := iprop(Tk m c ∗ (∃ r, prngReg c r) ∗ ∃ W, owes (c : Thread nD τ) (O₀ c) W)
/-- And after it. -/
def E1 (c : Dev nD) : sProp 𝕄 := iprop(Yk (F := F) c ∗ ∃ W, owes (c : Thread nD τ) (0 : CellTallies nD τ sig Unit) W)

theorem arr_sub : Pipeline.arrRefs (τ := τ) spec0 ⊆ Pipeline.ucRefs τ sig := by decide

theorem pre_ok (c : Dev nD) : iprop(StableHlo.held (c : Thread nD τ) (Pipeline.ucRefs τ sig) (V1 m c) ∗ E0 m c) ⊢ (R0 m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arr_sub (V1 m c), zero_add]
  unfold E0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem post_ok (c : Dev nD) : (R0 m).post c ⊢ iprop(StableHlo.held (c : Thread nD τ) (Pipeline.ucRefs τ sig) (V2 m (outs m) c) ∗ E1 (F := F) c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk (F := F) c
    ∗ ∃ Wd, owes (c : Thread nD τ) (0 : CellTallies nD τ sig Unit) Wd) ⊢ _
  rw [StableHlo.held_sub_split (c.tc : Thread nD τ) arr_sub (V2 m (outs m) c)]
  unfold E1
  iintro ⟨Ha, -, ⟨Hr, -⟩, HY, HO⟩
  isplitl [Ha Hr]; · isplitl [Ha] <;> iassumption
  isplitl [HY]; · iexact HY
  iexact HO

end Cert.KernelIdeal.Exchange

end
-- ==== Proof.Run.lean ====
/-
# The run

The launch of the four devices: the exchange's cells are allocated and their rights dealt out. Then the run of the whole
program over any float values: every execution ends, leaves the arguments as they were, leaves every semaphore at zero, and
leaves in the result what the last valuation says.
-/
module

public import proofs.«01_k».proof.Proof.Record
public import Idealize.ShloMosaic.Lib.Quiescent

@[expose] public section

set_option maxRecDepth 16384
set_option maxHeartbeats 2000000

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The duties' tokens -/

/-- Both duties of every barrier cell. -/
def barToks : Finset (GSem nD τ sig × ℕ × Bool) :=
  Finset.univ.map ⟨fun cb : Dev nD × Bool => (barCell cb.1, 0, cb.2), fun a b h =>
    Prod.ext (congrArg (fun t : GSem nD τ sig × ℕ × Bool => t.1.1.1) h) (congrArg (fun t : GSem nD τ sig × ℕ × Bool => t.2.2) h)⟩
/-- The one duty of every transfer cell. -/
def scToks : Finset (GSem nD τ sig × ℕ × Bool) :=
  scCells.map ⟨fun g => (g, 0, false), fun a b h => congrArg Prod.fst h⟩
def toks : Finset (GSem nD τ sig × ℕ × Bool) := barToks ∪ scToks

theorem bar_ne_osem (c c' : Dev nD) (i : Fin 32) : barCell c ≠ ((c' : Thread nD τ), osem i) := fun h => by
  have h2 : SemLoc.reg barS = osem i := congrArg Prod.snd h
  unfold osem at h2; cases h2

theorem disjoint_cells : Disjoint (barCells : Finset (GSem nD τ sig)) scCells := by
  rw [Finset.disjoint_left]
  rintro g h₁ h₂
  obtain ⟨c, -, rfl⟩ := Finset.mem_map.mp h₁
  obtain ⟨ci, -, h⟩ := Finset.mem_map.mp h₂
  exact bar_ne_osem c ci.1 ci.2 h.symm

theorem disjoint_toks : Disjoint barToks scToks := by
  rw [Finset.disjoint_left]
  rintro t h₁ h₂
  obtain ⟨cb, -, rfl⟩ := Finset.mem_map.mp h₁
  obtain ⟨g, hg, h⟩ := Finset.mem_map.mp h₂
  have h' : g = barCell cb.1 := congrArg Prod.fst h
  exact Finset.disjoint_left.mp disjoint_cells (barCell_mem cb.1) (h' ▸ hg)

theorem bool_sep (Φ : Bool → sProp 𝕄) : bigSep Finset.univ Φ = iprop(Φ false ∗ Φ true) := by
  rw [show (Finset.univ : Finset Bool) = {false, true} from by decide, BI.bigSep_insert (by decide), BI.bigSep_singleton]; rfl

/-- A family over all transfer cells, device by device. -/
theorem sc_split (Φ : GSem nD τ sig → sProp 𝕄) :
    bigSep scCells Φ = bigSep Finset.univ fun c : Dev nD => bigSep Finset.univ fun i : Fin (16 + 16) => Φ ((c : Thread nD τ), osem i) := by
  unfold scCells; rw [BI.bigSep_map, BI.bigSep_univ_prod]; rfl

theorem toks_eq : (bigSep toks fun x => (dutyTok ER x.1 x.2.1 x.2.2 : sProp 𝕄))
    = iprop((bigSep Finset.univ fun c : Dev nD => iprop(dutyTok ER (barCell c) 0 false ∗ dutyTok ER (barCell c) 0 true))
      ∗ (bigSep Finset.univ fun c : Dev nD => iprop((bigSep Finset.univ fun j : Fin 16 => dutyTok ER (sCell c j) 0 false)
        ∗ (bigSep Finset.univ fun j : Fin 16 => dutyTok ER (rCell c j) 0 false)))) := by
  unfold toks; rw [BI.bigSep_union disjoint_toks]
  refine congrArg₂ BI.BIBase.sep ?_ ?_
  · unfold barToks; rw [BI.bigSep_map, BI.bigSep_univ_prod]
    exact BI.bigSep_congr fun c _ => bool_sep _
  · unfold scToks; rw [BI.bigSep_map, sc_split]
    exact BI.bigSep_congr fun c _ => own_cells c (fun g => (dutyTok ER g 0 false : sProp 𝕄))

def swap1 : Dev nD ≃ Dev nD := ⟨p1, p1, p1_p1, p1_p1⟩
def swap2 : Dev nD ≃ Dev nD := ⟨p2, p2, p2_p2, p2_p2⟩
def swapT (j : Fin 16) : Dev nD ≃ Dev nD := ⟨pt j, pt j, pt_pt j, pt_pt j⟩

/-- The receive cells' tokens go to the senders. -/
theorem recv_around : (bigSep Finset.univ fun c : Dev nD => bigSep Finset.univ fun j : Fin 16 => (dutyTok ER (rCell c j) 0 false : sProp 𝕄))
    = bigSep Finset.univ fun c : Dev nD => bigSep Finset.univ fun j : Fin 16 => (dutyTok ER (rCell (pt j c) j) 0 false : sProp 𝕄) := by
  rw [Pipeline.bigSep_univ_comm, Pipeline.bigSep_univ_comm (fun (c : Dev nD) (j : Fin 16) => (dutyTok ER (rCell (pt j c) j) 0 false : sProp 𝕄))]
  exact BI.bigSep_congr fun j _ => BI.bigSep_univ_equiv (swapT j) (fun c : Dev nD => (dutyTok ER (rCell c j) 0 false : sProp 𝕄))

/-- The tokens device `c` holds at launch. -/
def given (c : Dev nD) : sProp 𝕄 := iprop((bigSep Finset.univ fun j : Fin 16 => dutyTok ER (sCell c j) 0 false)
  ∗ (bigSep Finset.univ fun j : Fin 16 => dutyTok ER (rCell (pt j c) j) 0 false)
  ∗ dutyTok ER (barCell (p1 c)) 0 false ∗ dutyTok ER (barCell (p2 c)) 0 true)

theorem toks_dealt : (bigSep toks fun x => (dutyTok ER x.1 x.2.1 x.2.2 : sProp 𝕄)) ⊢ bigSep Finset.univ fun c : Dev nD => given (F := F) c := by
  unfold given
  rw [toks_eq, bigSep_sep', bigSep_sep', bigSep_sep', bigSep_sep', bigSep_sep', recv_around,
    BI.bigSep_univ_equiv swap1 (fun c : Dev nD => (dutyTok ER (barCell c) 0 false : sProp 𝕄)),
    BI.bigSep_univ_equiv swap2 (fun c : Dev nD => (dutyTok ER (barCell c) 0 true : sProp 𝕄))]
  iintro ⟨⟨H1, H2⟩, H3, H4⟩
  isplitl [H3]; · iexact H3
  isplitl [H4]; · iexact H4
  isplitl [H1]; · iexact H1
  iexact H2

/-! ## The credit at launch -/

theorem rCell_inj {c c' : Dev nD} {j j' : Fin 16} (h : rCell c j = rCell c' j') : c = c' ∧ j = j' := by
  refine ⟨congrArg (fun g : GSem nD τ sig => g.1.1) h, Fin.ext ?_⟩
  have h2 : SemLoc.dma (rS j) = SemLoc.dma (rS j') := congrArg Prod.snd h
  have h3 := Fin.ext_iff.mp (SemLoc.dma.inj h2)
  simp only [rS] at h3; omega
theorem rCell_ne_bar (c c' : Dev nD) (j : Fin 16) : rCell c j ≠ barCell c' := fun h => by
  have h2 : SemLoc.dma (rS j) = SemLoc.reg barS := congrArg Prod.snd h
  cases h2

theorem owed_recv (d c : Dev nD) (j : Fin 16) : O₀ d (rCell c j) () = if d = pt j c then N else 0 := by
  unfold O₀
  rw [Pi.add_apply, Finsupp.add_apply, Pi.add_apply, Finsupp.add_apply, tallyAt_ne_cell (rCell_ne_bar _ _ _), tallyAt_ne_cell (rCell_ne_bar _ _ _),
    Finsupp.zero_apply, Nat.add_zero, Nat.add_zero]
  unfold Orem
  rw [Finset.sum_apply, Finsupp.finset_sum_apply, Finset.sum_eq_single j]
  · rw [tallyAt_apply]
    by_cases h : d = pt j c
    · subst h; rw [pt_pt, if_pos ⟨rfl, rfl⟩, if_pos rfl]
    · rw [if_neg (fun h' => h (by rw [(rCell_inj h'.1).1, pt_pt])), if_neg h]
  · intro j' _ hj'
    rw [tallyAt_apply, if_neg (fun h' => hj' (rCell_inj h'.1).2.symm)]
  · intro h; exact absurd (Finset.mem_filter.mpr ⟨Finset.mem_univ j, Nat.zero_le j.val⟩) h

theorem barCell_inj {c c' : Dev nD} (h : barCell c = barCell c') : c = c' := congrArg (fun g : GSem nD τ sig => g.1.1) h

theorem owed_bar (d c : Dev nD) : O₀ d (barCell c) () = (if d = p2 c then 1 else 0) + (if d = p1 c then 1 else 0) := by
  unfold O₀
  rw [Pi.add_apply, Finsupp.add_apply, Pi.add_apply, Finsupp.add_apply, tallyAt_apply, tallyAt_apply]
  have hz : Orem d 0 (barCell c) () = 0 := by
    by_contra hn
    obtain ⟨j, -, hj⟩ := Orem_pos (Nat.pos_of_ne_zero hn)
    exact rCell_ne_bar _ _ _ hj.symm
  rw [hz, Nat.zero_add]
  refine congrArg₂ (· + ·) ?_ ?_
  · by_cases h : d = p2 c
    · subst h; rw [p2_p2, if_pos ⟨rfl, rfl⟩, if_pos rfl]
    · rw [if_neg (fun h' => h (by rw [barCell_inj h'.1, p2_p2])), if_neg h]
  · by_cases h : d = p1 c
    · subst h; rw [p1_p1, if_pos ⟨rfl, rfl⟩, if_pos rfl]
    · rw [if_neg (fun h' => h (by rw [barCell_inj h'.1, p1_p1])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

theorem launch_recv (c : Dev nD) (j : Fin 16) :
    tallyOn (rCell c j) (launchCredit (Pipeline.owing O₀) 0 (rCell c j)) = (tallyAt (rCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (pt j c) fun _ => N, if_pos (Finset.mem_univ _)]

def recvEmb : Fin 16 ↪ SemLoc sig := ⟨fun j => .dma (rS j), fun a b h => (rCell_inj (c := 0) (c' := 0) (congrArg (fun s => (((0 : Dev nD) : Thread nD τ), s)) h)).2⟩

/-- The credit of device `c`'s waits: two units of its barrier, and each receive cell's transfer. -/
theorem creds (c : Dev nD) : (Pipeline.launchCred O₀ c : sProp 𝕄)
    ⊢ iprop(cred (tallyAt (barCell c) () 2) ∗ bigSep Finset.univ fun j : Fin 16 => cred (tallyAt (rCell c j) () N)) := by
  unfold Pipeline.launchCred
  rw [BI.bigSep_univ_at _ (SemLoc.reg barS), launch_bar]
  refine BI.Laws.sep_mono_right ?_
  refine (BI.bigSep_subset (t := Finset.univ.map recvEmb) ?_).trans ?_
  · intro s hs
    obtain ⟨j, -, rfl⟩ := Finset.mem_map.mp hs
    exact Finset.mem_erase.mpr ⟨fun h => (by cases h), Finset.mem_univ _⟩
  · rw [BI.bigSep_map]
    exact BI.bigSep_mono fun j _ => Entails.of_eq (congrArg (fun t => (cred t : sProp 𝕄)) (launch_recv c j))

/-! ## The launch -/

/-- A resource held on one device. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- The launch element: the pipeline's at the staging cells, the exchange's at its own. -/
def u₀ : UU :=
  (initOf (Pipeline.cells (Pipeline.pin (pcfgs (F := F)) adm) cellOf_inj) (Pipeline.launchToks (Pipeline.pin (pcfgs (F := F)) adm) cellOf_inj),
    launchOf barCells scCells toks)
/-- The exchange's part is held on device 0 until the rights are dealt. -/
def G : Dev nD → sProp 𝕄 := onDev 0 (BI.own (ER (launchOf barCells scCells toks)))

theorem pair_intro {I : Type} (S : Finset I) (Φ Ψ : I → sProp 𝕄) : iprop(bigSep S Φ ∗ bigSep S Ψ) ⊢ bigSep S fun i => iprop(Φ i ∗ Ψ i) :=
  Entails.of_eq (bigSep_sep' (s := S) (Φ := Φ) (Ψ := Ψ)).symm
theorem pair_elim {I : Type} (S : Finset I) (Φ Ψ : I → sProp 𝕄) : (bigSep S fun i => iprop(Φ i ∗ Ψ i)) ⊢ iprop(bigSep S Φ ∗ bigSep S Ψ) :=
  Entails.of_eq (bigSep_sep' (s := S) (Φ := Φ) (Ψ := Ψ))

theorem barSem_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What of a device's launch holdings is not the exchange's. -/
def bundle (c : Dev nD) : sProp 𝕄 :=
  iprop(StableHlo.held (c : Thread nD τ) (Pipeline.ucRefs τ sig) (V0 m c)
    ∗ (cred (tallyAt (barCell c) () 2) ∗ bigSep Finset.univ fun j : Fin 16 => cred (tallyAt (rCell c j) () N))
    ∗ owes (c : Thread nD τ) (O₀ c) ∅ ∗ ∃ r, prngReg c r)

/-- What a device starts with. -/
abbrev T₀ (c : Dev nD) : sProp 𝕄 := iprop(StableHlo.held (c : Thread nD τ) (Pipeline.ucRefs τ sig) (V0 m c) ∗ E0 m c)

theorem start_intro (K : GSem nD τ sig → ℕ) (c : Dev nD) :
    iprop(known (VV m) K ∗ ((atPos ER (barCell c) 0 ∅ 0 ∗ (bigSep Finset.univ fun i : Fin (16 + 16) => openTok ER ((c : Thread nD τ), osem i)) ∗ given (F := F) c)
      ∗ bundle m c)) ⊢ T₀ m c := by
  unfold bundle T₀ E0 Tk given
  iintro ⟨#HK, ⟨Hat, Hop, Hs, Hr, Hb1, Hb2⟩, Hh, ⟨Hc, Hcr⟩, HO, Hp⟩
  isplitl [Hh]; · iexact Hh
  isplitr [Hp HO]
  · iexists K
    isplitr; · iexact HK
    isplitl [Hop]; · iexact Hop
    isplitl [Hs]; · iexact Hs
    isplitl [Hr]; · iexact Hr
    isplitl [Hcr]; · iexact Hcr
    isplitl [Hc Hat]; · isplitl [Hc] <;> iassumption
    isplitl [Hb1] <;> iassumption
  isplitl [Hp]; · iexact Hp
  iexists ∅; iexact HO

theorem core_split (ρ : Dev nD → PrngReg) (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show unscopedBufs c (fun b => m ((c : Thread nD τ).loc b)) = StableHlo.held (c : Thread nD τ) (Pipeline.ucRefs τ sig) (V0 m c) from
    Pipeline.unscopedBufs_held c (V0 m c), barSem_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The launch: from the devices' holdings to what each device starts with. -/
theorem init (ρ : Dev nD → PrngReg) :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun i : Fin (16 + 16) => (openTok ER ((c : Thread nD τ), osem i) : sProp 𝕄)) :=
    Entails.of_eq (sc_split _)
  iintro ⟨H, #Hlev⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from BI.bigSep_mono fun c _ => core_split m ρ c) $$ H
  ihave H2 := (pair_elim _ _ _) $$ H'; icases H2 with ⟨HB, H3⟩
  ihave H4 := (pair_elim _ _ _) $$ H3; icases H4 with ⟨Hv, HG⟩
  ihave Hu := (show bigSep Finset.univ (G (F := F)) ⊢ BI.own (ER (launchOf barCells scCells toks)) from
    Entails.of_eq (bigSep_onDev (F := F) 0 (BI.own (ER (launchOf barCells scCells toks))))) $$ HG
  imod (Rounds.fund_launch ER (Rd (VV m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := known (VV m) κ)
    (Φ := fun c => iprop((atPos ER (barCell c) 0 ∅ 0 ∗ (bigSep Finset.univ fun i : Fin (16 + 16) => openTok ER ((c : Thread nD τ), osem i)) ∗ given (F := F) c) ∗ bundle m c))
    fun c _ => start_intro m κ c)
  isplitr
  · unfold known
    isplitr; · iexact Hinv
    isplitr; · iexact Hr
    iexact Hlev
  iapply (pair_intro _ _ _)
  isplitr [HB]
  · iapply (pair_intro _ _ _); isplitl [Hat]; · iapply hat $$ Hat
    iapply (pair_intro _ _ _); isplitl [Hopen]; · iapply hop $$ Hopen
    iapply (toks_dealt (F := F)); iexact Htok
  · iexact HB

/-! ## The run -/

/-- What rides beside the buffers, before and after the region. -/
def E : Fin 2 → Dev nD → sProp 𝕄 := fun i c => if i = 0 then E0 m c else E1 (F := F) c

/-- What a device ends with. -/
abbrev Tₙ (c : Dev nD) : sProp 𝕄 := iprop(StableHlo.held (c : Thread nD τ) (Pipeline.ucRefs τ sig) (V3 m (outs m) c) ∗ semVal (barCell c) 0)

theorem unscoped_eq : ∀ sm : SemLoc sig, sm.isScoped .tc = false → sm = .reg barS := by decide

/-- What is true at the end on device `c`. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v19) = V3 m (outs m) c main_v19

set_option backward.isDefEq.respectTransparency.types false in
/-- Every execution of the program on the four devices ends; at the end the arguments are as they were on every device, the
    result is what the last valuation holds there, and every semaphore is at zero. -/
theorem run_main (ρ : Dev nD → PrngReg) : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (E m) () (pdats m) (R0 m))
    (fun c Q => by
      rewrite [main_chain c, Pipeline.Seg.run_eq_chain,
        show (segs m (outs m) 𝒱₀ L lv (E m) () (pdats m) (R0 m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) (u₀ (F := F))
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, pre_ok m c, post_ok m c, (by
      show iprop(StableHlo.held (c : Thread nD τ) (Pipeline.ucRefs τ sig) (V3 m (outs m) c) ∗ E1 (F := F) c)
        ⊢ iprop(Tₙ m c ∗ ∃ W, owes (c : Thread nD τ) (0 : CellTallies nD τ sig Unit) W)
      unfold E1 Yk
      iintro ⟨Hh, Hb0, HO⟩
      isplitr [HO]
      · isplitl [Hh] <;> iassumption
      · iexact HO)⟩)
    (hinit := init m ρ)
    (QY := fun c s => Ends m c s ∧ s.sem (barCell c) = 0)
    (hfin := fun c s' => by
      dsimp only [Tₙ]; unfold StableHlo.held
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨⟨(h (Proc.devRef .tc main_arg0) (Finset.mem_filter.mpr ⟨StableHlo.devRef_mem_tcRefs main_arg0, by decide⟩)).trans (V3_main_arg0 m (outs m) c),
          (h (Proc.devRef .tc main_arg1) (Finset.mem_filter.mpr ⟨StableHlo.devRef_mem_tcRefs main_arg1, by decide⟩)).trans (V3_main_arg1 m (outs m) c),
          (h (Proc.devRef .tc main_arg2) (Finset.mem_filter.mpr ⟨StableHlo.devRef_mem_tcRefs main_arg2, by decide⟩)).trans (V3_main_arg2 m (outs m) c),
          (h (Proc.devRef .tc main_arg3) (Finset.mem_filter.mpr ⟨StableHlo.devRef_mem_tcRefs main_arg3, by decide⟩)).trans (V3_main_arg3 m (outs m) c),
          (h (Proc.devRef .tc main_arg4) (Finset.mem_filter.mpr ⟨StableHlo.devRef_mem_tcRefs main_arg4, by decide⟩)).trans (V3_main_arg4 m (outs m) c)⟩,
          h (Proc.devRef .tc main_v19) (Finset.mem_filter.mpr ⟨StableHlo.devRef_mem_tcRefs main_v19, by decide⟩)⟩, by simpa using hb⟩
      · iexact HSI)
    (hQ := fun s h hs => ⟨fun c => (h c).1, sem_eq_zero hs fun c sm hsm => by
      obtain rfl := unscoped_eq sm hsm
      exact (h c).2⟩)

end Cert.KernelIdeal.Exchange

end
-- ==== Proof.Frames.lean ====
/-
# The frames

Each program runs to its end, leaves its arguments as they were, and leaves every semaphore at zero. The kernel and its
reading over the extended reals have the same text, so both frames are the one run of `Run`, at machine words and at extended reals.
-/
module

public import proofs.«01_k».proof.Proof.Run
public import proofs.«01_k».proof.Proof.Gen.ReferenceIdeal.Run
public import proofs.«01_k».proof.Proof.Gen.Kernel
public import proofs.«01_k».proof.Defs

@[expose] public section

noncomputable section

namespace Cert.Proof

open Idealize.ShloMosaic Idealize.SL.Sem

/-- The run, over any float values: device by device the arguments end unchanged, and every semaphore ends at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0 :=
  (θ_run Cert.KernelIdeal.defs _ _).mono (fun _ h => ⟨fun c => (h.1 c).1, h.2⟩) (Cert.KernelIdeal.Exchange.run_main (F := F) m ρ)

/-- The two body tables are one: their one label runs the same text. -/
theorem bodies_eq : @Cert.Kernel.defs₀ Bits _ _ = @Cert.KernelIdeal.defs₀ Bits _ _ := by
  unfold Cert.Kernel.defs₀ Cert.KernelIdeal.defs₀
  congr 1
  funext l a
  match l, a with
  | 0, (t, s) => rfl

/-- So are the tables with the pallas_call's pipeline. -/
theorem tables_eq : @Cert.Kernel.defs Bits _ _ = @Cert.KernelIdeal.defs Bits _ _ :=
  congrArg (Pipeline.defs (Cert.KernelIdeal.pcfgs (F := Bits))) bodies_eq

/-- The kernel's frame, at machine words. -/
theorem frame_kernel : Cert.quiescent_Kernel := fun m ρ _ => by
  have h := frame_any (F := Bits) m ρ
  rw [← tables_eq] at h
  exact h

/-- The frame of the kernel over the extended reals. -/
theorem frame_ideal : Cert.quiescent_KernelIdeal := fun m ρ _ => frame_any (F := Ideal) m ρ

/-- The reference's frame: it declares no semaphore, so the counters are zero of themselves. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.Shards.lean ====
/-
# The blocks each device's body reads, from its arguments

The host's operations before the body flatten the rows and cut out the device's own 256 columns of the query weights,
which they scale, and its own 256 rows of the output weights; after the body they give the result back its three axes.
Each of these read at an index.
-/
module

public import proofs.«01_k».proof.Proof.Run
public import Idealize.ShloMosaic.Lib.Pointwise
public import Idealize.ShloMosaic.Lib.DynamicIndex
public import Idealize.ShloMosaic.Lib.StableHlo.RunClose

@[expose] public section

set_option maxRecDepth 16384
set_option maxHeartbeats 2000000

noncomputable section

namespace Cert.KernelIdeal.Exchange

open Cert.KernelIdeal Cert.KernelIdeal.Gen Cert.KernelIdeal.Facts

open Idealize.ShloMosaic Idealize.ShloMosaic.StableHlo
open Idealize.ShloMosaic.TcCoe

variable (m : (ℓ : Loc nD τ sig) → Buf (Elt Ideal) ℓ) (c : Dev nD)

/-- The rows of `x` as device `c` holds them at launch, and below the other four arguments. -/
def argX : FVec Ideal S2x128x512 .bf16 := m ((c : Thread nD τ).loc main_arg0)
def argWq : FVec Ideal S512x1024 .bf16 := m ((c : Thread nD τ).loc main_arg1)
def argK : FVec Ideal S2x128x4x64 .bf16 := m ((c : Thread nD τ).loc main_arg2)
def argV : FVec Ideal S2x128x4x64 .bf16 := m ((c : Thread nD τ).loc main_arg3)
def argWo : FVec Ideal S1024x512 .bf16 := m ((c : Thread nD τ).loc main_arg4)

theorem slicesQ (c : Dev nD) : S512x1024.Slices ![0, 256 * c.val] S512x256 := by revert c; decide
theorem slicesO (c : Dev nD) : S1024x512.Slices ![256 * c.val, 0] S256x512 := by revert c; decide

/-! ## The host's values -/

theorem x_eq : (ins m c).x = shapeCast S256x512 (argX m c) shapeCasts_S2x128x512_S256x512 := by
  show StableHlo.after (hostOps0 c) (V0 m c) main_v17 = _
  unfold hostOps0
  after_results
  rfl

theorem wq_eq : (ins m c).wq = (mulf (extractStridedSlice S512x256 ![0, 256 * c.val] (argWq m c) (slicesQ c))
    (broadcastInDim S512x256 ![] bcast_S_S512x256 (constant S_ .bf16 0x3E00#16)) : FVec Ideal S512x256 .bf16) := by
  show StableHlo.after (hostOps0 c) (V0 m c) main_v11 = _
  unfold hostOps0
  after_results_simp_entrywise
  refine congrArg (mulf · _) ?_
  refine Host.dynamicSlice_eq_extractStridedSlice S512x256 (argWq m c) _ _ _ (slicesQ c) fun a => ?_
  match a with
  | 0 => rfl
  | 1 => revert c; decide

theorem wo_eq : (ins m c).wo = extractStridedSlice S256x512 ![256 * c.val, 0] (argWo m c) (slicesO c) := by
  show StableHlo.after (hostOps0 c) (V0 m c) main_v16 = _
  unfold hostOps0
  after_results_simp_entrywise
  refine Host.dynamicSlice_eq_extractStridedSlice S256x512 (argWo m c) _ _ _ (slicesO c) fun a => ?_
  match a with
  | 0 => revert c; decide
  | 1 => rfl

theorem k_eq : (ins m c).k = argK m c := V1_of m c main_arg2 (by decide)
theorem v_eq : (ins m c).v = argV m c := V1_of m c main_arg3 (by decide)

theorem out_eq : V3 m (outs m) c main_v19 = shapeCast S2x128x512 (outAt (ins m) c) shapeCasts_S256x512_S2x128x512 := by
  show StableHlo.after hostOps1 (V2 m (outs m) c) main_v19 = _
  unfold hostOps1
  after_results
  rw [← outs_v18]
  refine congrArg (fun y => shapeCast S2x128x512 y shapeCasts_S256x512_S2x128x512) ?_
  exact Function.update_self ..

/-! ## Read at an index -/

theorem castX_apply {α : Type} (X : S2x128x512.Idx → α) (b : Fin 2) (i : Fin 128) (t : Fin 512) :
    shapeCast S256x512 X shapeCasts_S2x128x512_S256x512 (ix2 (⟨128 * b.val + i.val, by omega⟩ : Fin 256) t) = X (ix3 b i t) :=
  shapeCast_apply _ _ _ _ (by rw [Shape.rowMajor_val_two, Shape.rowMajor_val_three]; show (b.val * 128 + i.val) * 512 + t.val = (128 * b.val + i.val) * 512 + t.val; omega)

theorem castO_apply {α : Type} (X : S256x512.Idx → α) (b : Fin 2) (i : Fin 128) (t : Fin 512) :
    shapeCast S2x128x512 X shapeCasts_S256x512_S2x128x512 (ix3 b i t) = X (ix2 (⟨128 * b.val + i.val, by omega⟩ : Fin 256) t) :=
  shapeCast_apply _ _ _ _ (by rw [Shape.rowMajor_val_two, Shape.rowMajor_val_three]; show (128 * b.val + i.val) * 512 + t.val = (b.val * 128 + i.val) * 512 + t.val; omega)

theorem sliceQ_apply {α : Type} (X : S512x1024.Idx → α) (c : Dev nD) (t : Fin 512) (n : Fin 256) :
    extractStridedSlice S512x256 ![0, 256 * c.val] X (slicesQ c) (ix2 t n) = X (ix2 t (⟨256 * c.val + n.val, by have := c.isLt; unfold nD at this; omega⟩ : Fin 1024)) := by
  pointwise

theorem sliceO_apply {α : Type} (X : S1024x512.Idx → α) (c : Dev nD) (u : Fin 256) (n : Fin 512) :
    extractStridedSlice S256x512 ![256 * c.val, 0] X (slicesO c) (ix2 u n) = X (ix2 (⟨256 * c.val + u.val, by have := c.isLt; unfold nD at this; omega⟩ : Fin 1024) n) := by
  pointwise

theorem rows_at {α : Type} (X : S256x512.Idx → α) (b : Fin 2) (i : Fin 128) (t : Fin 512) :
    atR (rX b) X (ix2 i t) = X (ix2 (⟨128 * b.val + i.val, by omega⟩ : Fin 256) t) := by
  refine congrArg X ?_
  funext a
  apply Fin.ext
  match a with
  | 0 => show 128 * b.val + 1 * i.val = 128 * b.val + i.val; omega
  | 1 => show 0 + 1 * t.val = t.val; omega

theorem x_at (b : Fin 2) (i : Fin 128) (t : Fin 512) :
    atR (rX b) (ins m c).x (ix2 i t) = argX m c (ix3 b i t) := by
  rw [rows_at, x_eq, castX_apply]

theorem wq_at (t : Fin 512) (n : Fin 256) : ((ins m c).wq : FVec Ideal S512x256 .bf16) (ix2 t n)
    = argWq m c (ix2 t (⟨256 * c.val + n.val, by have := c.isLt; unfold nD at this; omega⟩ : Fin 1024)) * Ideal.ofBits .bf16 0x3E00#16 := by
  rw [wq_eq, mulf_apply, sliceQ_apply]
  rfl

theorem wo_at (u : Fin 256) (n : Fin 512) : (ins m c).wo (ix2 u n)
    = argWo m c (ix2 (⟨256 * c.val + u.val, by have := c.isLt; unfold nD at this; omega⟩ : Fin 1024) n) := by
  rw [wo_eq, sliceO_apply]

theorem kv_at {α : Type} (X : S2x128x4x64.Idx → α) (b : Fin 2) (h : Fin 4) (j : Fin 128) (e : Fin 64) :
    atR (rKV b h) X (ix4 0 j 0 e) = X (ix4 b j h e) := by
  refine congrArg X ?_
  funext a
  apply Fin.ext
  match a with
  | 0 => show b.val + 1 * 0 = b.val; omega
  | 1 => show 0 + 1 * j.val = j.val; omega
  | 2 => show h.val + 1 * 0 = h.val; omega
  | 3 => show 0 + 1 * e.val = e.val; omega

end Cert.KernelIdeal.Exchange
end
-- ==== Proof.Softmax.lean ====
/-
# Softmax with and without the row's maximum

Facts about extended reals. A row of real scores gives the same weighted mean whether its exponentials are divided by
their sum before the values are summed, each score less some real number first, or after, the scores as they are; the
values may be infinite. A scale on the weights of a product of real numbers may be taken outside.
-/
module

public import Idealize.ShloMosaic.PureOps.Ideal.Laws
public import Idealize.ShloMosaic.Lib.IdealHost

@[expose] public section

noncomputable section

namespace Cert.Softmax

open Idealize.ShloMosaic
open scoped BigOperators

/-- An extended real that is a real number. -/
def IsReal (a : EReal) : Prop := ∃ r : ℝ, a = r

theorem IsReal.coe (r : ℝ) : IsReal (r : EReal) := ⟨r, rfl⟩
theorem IsReal.mul {a b : EReal} : IsReal a → IsReal b → IsReal (a * b)
  | ⟨r, hr⟩, ⟨s, hs⟩ => ⟨r * s, by rw [hr, hs, EReal.coe_mul]⟩
theorem IsReal.add {a b : EReal} : IsReal a → IsReal b → IsReal (a + b)
  | ⟨r, hr⟩, ⟨s, hs⟩ => ⟨r + s, by rw [hr, hs, EReal.coe_add]⟩

/-- The sum of real numbers is the sum taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- An extended real whose absolute value is below infinity is a real number. -/
theorem IsReal.of_abs {a : EReal} (h : max a (-a) < ⊤) : IsReal a := by
  induction a using EReal.rec with
  | bot => simp at h
  | top => simp at h
  | coe r => exact ⟨r, rfl⟩

/-- The greatest of finitely many real numbers, at least one, is real. -/
theorem IsReal.fold_max {n : ℕ} (f : Fin (n + 1) → EReal) (h : ∀ i, IsReal (f i)) : IsReal (Finset.univ.fold max ⊥ f) := by
  classical
  have key : ∀ s : Finset (Fin (n + 1)), s.fold max ⊥ f = ⊥ ∧ s = ∅ ∨ IsReal (s.fold max ⊥ f) := by
    intro s
    induction s using Finset.induction_on with
    | empty => left; simp
    | insert a s ha ih =>
      right
      rw [Finset.fold_insert ha]
      obtain ⟨r, hr⟩ := h a
      rcases ih with ⟨e, -⟩ | ⟨t, ht⟩
      · rw [e, hr]; exact ⟨r, by simp⟩
      · rw [ht, hr]
        rcases le_total r t with hl | hl
        · exact ⟨t, max_eq_right (EReal.coe_le_coe_iff.mpr hl)⟩
        · exact ⟨r, max_eq_left (EReal.coe_le_coe_iff.mpr hl)⟩
  rcases key Finset.univ with ⟨-, e⟩ | h
  · exact absurd e (Finset.univ_nonempty.ne_empty)
  · exact h

/-- A nonnegative real factor goes into a sum of extended reals. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (r : ℝ) : Ideal.exp (r : EReal) = ((Real.exp r : ℝ) : EReal) := rfl

/-- **The two orders of dividing.** Dividing the weighted sum of the values by the sum of the exponentials is weighting
    the values by the exponentials of the scores less `p`, each over their sum. -/
theorem mean_eq {n : ℕ} (s v : Fin (n + 1) → EReal) (p : EReal) (hs : ∀ j, IsReal (s j)) (hp : IsReal p) :
    (∑ j, Ideal.exp (s j) * v j) * Ideal.div 1 (∑ j, Ideal.exp (s j))
      = ∑ j, v j * Ideal.div (Ideal.exp (s j - p)) (∑ l, Ideal.exp (s l - p)) := by
  choose r hr using hs
  obtain ⟨t, rfl⟩ := hp
  obtain rfl : s = fun j => (r j : EReal) := funext hr
  have hS : ∀ u : ℝ, 0 < ∑ j, Real.exp (r j - u) := fun u =>
    Finset.sum_pos (fun j _ => Real.exp_pos _) Finset.univ_nonempty
  have h0 : 0 < ∑ j, Real.exp (r j) := by simpa using hS 0
  simp only [← EReal.coe_sub, exp_coe, ← coe_sum]
  rw [show (1 : EReal) = ((1 : ℝ) : EReal) from rfl, div_coe _ _ h0.ne', sum_mul_coe _ _ _ (by positivity)]
  refine Finset.sum_congr rfl fun j _ => ?_
  rw [div_coe _ _ (hS t).ne', mul_comm (Real.exp (r j) : EReal) (v j), mul_assoc, ← EReal.coe_mul]
  congr 2
  have e : ∀ l, Real.exp (r l - t) = Real.exp (r l) * Real.exp (-t) := fun l => by rw [sub_eq_add_neg, Real.exp_add]
  simp only [e]
  rw [← Finset.sum_mul, mul_div_mul_right _ _ (Real.exp_pos _).ne', mul_one_div]

/-- **A scale on the weights goes outside.** -/
theorem scale_eq {m n : ℕ} (x : Fin m → EReal) (w : Fin m → Fin n → EReal) (k : Fin n → EReal) (a : EReal)
    (hx : ∀ t, IsReal (x t)) (hw : ∀ t e, IsReal (w t e)) (hk : ∀ e, IsReal (k e)) (ha : IsReal a) :
    ∑ e, (∑ t, x t * (w t e * a)) * k e = (∑ e, (∑ t, x t * w t e) * k e) * a := by
  choose x' hx using hx
  choose w' hw using hw
  choose k' hk using hk
  obtain ⟨a', rfl⟩ := ha
  simp only [hx, hw, hk, ← EReal.coe_mul, ← coe_sum]
  congr 1
  rw [Finset.sum_mul]
  refine Finset.sum_congr rfl fun e _ => ?_
  rw [Finset.sum_mul, Finset.sum_mul, Finset.sum_mul]
  exact Finset.sum_congr rfl fun t _ => by ring

/-- The product whose scale that is is a real number. -/
theorem IsReal.product {m n : ℕ} (x : Fin m → EReal) (w : Fin m → Fin n → EReal) (k : Fin n → EReal)
    (hx : ∀ t, IsReal (x t)) (hw : ∀ t e, IsReal (w t e)) (hk : ∀ e, IsReal (k e)) :
    IsReal (∑ e, (∑ t, x t * w t e) * k e) :=
  IsReal.sum _ _ fun e => (IsReal.sum _ _ fun t => (hx t).mul (hw t e)).mul (hk e)

/-- The constant of an unseen column. -/
abbrev far : EReal := Ideal.ofBits .f32 0xCE6E6B28#32

theorem IsReal.far : IsReal far := by
  refine ⟨-1000000000, ?_⟩
  simp [Ideal.ofBits, Ideal.ieee]
  norm_num [← EReal.coe_mul, ← EReal.coe_pow]

theorem eighth_f32 : Ideal.ofBits .f32 0x3E000000#32 = ((1 / 8 : ℝ) : EReal) := by
  simp [Ideal.ofBits, Ideal.ieee]
  norm_num [← EReal.coe_mul, ← EReal.coe_pow]

theorem eighth_bf16 : Ideal.ofBits .bf16 0x3E00#16 = ((1 / 8 : ℝ) : EReal) := by
  simp [Ideal.ofBits, Ideal.ieee]
  norm_num [← EReal.coe_mul, ← EReal.coe_pow]

theorem top_f32 : Ideal.ofBits .f32 0x7F800000#32 = ⊤ := by simp [Ideal.ofBits, Ideal.ieee]
theorem bot_f32 : Ideal.ofBits .f32 0xFF800000#32 = ⊥ := by simp [Ideal.ofBits, Ideal.ieee]

end Cert.Softmax

end
-- ==== Proof.Shares.lean ====
/-
# What the body computes, read at an index

The mask, a head's context, a device's share of the projected output, and the device's result: the sum of the four
devices' shares.
-/
module

public import proofs.«01_k».proof.Proof.Geometry
public import proofs.«01_k».proof.Proof.Softmax
public import Idealize.ShloMosaic.Lib.Pointwise

@[expose] public section

set_option maxRecDepth 16384
set_option maxHeartbeats 2000000

noncomputable section

namespace Cert.KernelIdeal.Exchange

open Cert.KernelIdeal Cert.KernelIdeal.Gen Cert.KernelIdeal.Facts

open Idealize.ShloMosaic

/-- One position's block of 64, as the program computes it. -/
def blockOf (n : BitVec 32) : BitVec 32 :=
  Scalar.select
    (IntOp.andi
      (IntOp.cmpi .ne
        (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32)
    (IntOp.divsi .vector n 64#32)

theorem blockOf_eq (i : Fin 128) : blockOf (BitVec.ofNat 32 i.val) = BitVec.ofNat 32 (i.val / 64) := by
  revert i; decide

theorem sle_eq (a b : Fin 2) : IntOp.cmpi .sle (BitVec.ofNat 32 a.val) (BitVec.ofNat 32 b.val) = if a.val ≤ b.val then 1#1 else 0#1 := by
  revert a b; decide

/-- The mask is one exactly where the column's block is not after the row's. -/
theorem mask_apply (i j : Fin 128) : mask (ix2 i j) = if j.val / 64 ≤ i.val / 64 then 1#1 else 0#1 := by
  have e : mask (ix2 i j) = IntOp.cmpi .sle (blockOf (BitVec.ofNat 32 j.val)) (blockOf (BitVec.ofNat 32 i.val)) := by
    unfold mask k0_pay5 k0_pay3 k0_pay4 blockOf
    pointwise
  rw [e, blockOf_eq, blockOf_eq]
  exact sle_eq ⟨j.val / 64, by omega⟩ ⟨i.val / 64, by omega⟩

theorem qrows_apply (I : Inputs Ideal) (b : Fin 2) (i : Fin 128) (n : Fin 256) :
    qrows I b (ix2 i n) = (∑ t : Fin 512, atR (rX b) I.x (ix2 i t) * I.wq (ix2 t n) : EReal) := by
  unfold qrows k0_pay21 k0_pay1
  pointwise

theorem qhead_apply (q : FVec Ideal S128x256 .bf16) (h : Fin 4) (i : Fin 128) (e : Fin 64) :
    qhead q h (ix2 i e) = q (ix2 i (⟨64 * h.val + e.val, by omega⟩ : Fin 256)) := by
  unfold qhead
  pointwise

/-- The exponent of one weight of a head, from its queries and keys. -/
def logit (q : FVec Ideal S128x64 .bf16) (k : FVec Ideal S1x128x1x64 .bf16) (i j : Fin 128) : EReal :=
  Scalar.select (mask (ix2 i j)) (∑ e : Fin 64, q (ix2 i e) * k (ix4 0 j 0 e)) Softmax.far

theorem attend_apply (q : FVec Ideal S128x64 .bf16) (k v : FVec Ideal S1x128x1x64 .bf16) (i : Fin 128) (d : Fin 64) :
    k0_pay23 mask q k v (ix2 i d)
      = (∑ j : Fin 128, Ideal.exp (logit q k i j) * v (ix4 0 j 0 d)) * Ideal.div 1 (∑ j : Fin 128, Ideal.exp (logit q k i j)) := by
  unfold k0_pay23 logit
  pointwise

/-- The contexts side by side: column `n` is column `n % 64` of head `n / 64`. -/
theorem ctxs_apply (I : Inputs Ideal) (b : Fin 2) (i : Fin 128) (h : Fin 4) (d : Fin 64) :
    ctxs I b (ix2 i (⟨64 * h.val + d.val, by omega⟩ : Fin 256)) = ctx I b h (ix2 i d) := by
  unfold ctxs
  pointwise
  rcases h with ⟨h, hh⟩
  interval_cases h <;> split_ifs <;> first
    | (exfalso; simp only at *; omega)
    | (congr 2; apply Fin.ext; simp only; omega)

theorem half_apply (I : Inputs Ideal) (b : Fin 2) (i : Fin 128) (n : Fin 512) :
    half I b (ix2 i n) = (∑ u : Fin 256, ctxs I b (ix2 i u) * I.wo (ix2 u n) : EReal) := by
  unfold half k0_pay2
  pointwise

theorem own_apply (I : Inputs Ideal) (k : Fin 8) (r : Fin 32) (n : Fin 512) :
    own I k (ix2 r n) = half I ⟨k.val / 4, by omega⟩ (ix2 (⟨32 * (k.val % 4) + r.val, by omega⟩ : Fin 128) n) := by
  unfold own rowsOf
  pointwise

theorem unpack_pack (w : FVec Ideal S32x512 .f32) : unpack (pack w) = w :=
  shapeCast_shapeCast (α := EReal) w _ _

/-- A device, its two partners and its second partner's first partner are the four devices. -/
theorem four_devices (f : Dev nD → EReal) (c : Dev nD) : (f c + f (p1 c)) + (f (p2 c) + f (p1 (p2 c))) = ∑ c' : Dev nD, f c' := by
  have h4 : ∑ c' : Dev nD, f c' = f 0 + f 1 + f 2 + f 3 := Fin.sum_univ_four f
  rw [h4]
  have hc : c = 0 ∨ c = 1 ∨ c = 2 ∨ c = 3 := by revert c; decide
  rcases hc with rfl | rfl | rfl | rfl
  · rw [show p1 0 = 1 by decide, show p2 0 = 3 by decide, show p1 3 = 2 by decide]; ac_rfl
  · rw [show p1 1 = 0 by decide, show p2 1 = 2 by decide, show p1 2 = 3 by decide]; ac_rfl
  · rw [show p1 2 = 3 by decide, show p2 2 = 1 by decide, show p1 1 = 0 by decide]; ac_rfl
  · rw [show p1 3 = 2 by decide, show p2 3 = 0 by decide, show p1 0 = 1 by decide]; ac_rfl

theorem outC_apply (I : Dev nD → Inputs Ideal) (c : Dev nD) (k : Fin 8) (y : S32x512.Idx) :
    outC I c k y = ∑ c' : Dev nD, own (I c') k y := by
  have e : outC I c k y = (own (I c) k y + own (I (p1 c)) k y) + (own (I (p2 c)) k y + own (I (p1 (p2 c))) k y) := by
    show (own (I c) k y + unpack (pack (own (I (p1 c)) k)) y)
      + unpack (pack (sum1 I (p2 c) k)) y = _
    rw [unpack_pack, unpack_pack]
    show _ + (own (I (p2 c)) k y + unpack (pack (own (I (p1 (p2 c))) k)) y) = _
    rw [unpack_pack]
  rw [e]
  exact four_devices (fun c' => own (I c') k y) c

/-- **A device's result**: the sum of the four devices' shares. -/
theorem outAt_apply (I : Dev nD → Inputs Ideal) (c : Dev nD) (b : Fin 2) (i : Fin 128) (n : Fin 512) :
    outAt I c (ix2 (⟨128 * b.val + i.val, by omega⟩ : Fin 256) n) = ∑ c' : Dev nD, half (I c') b (ix2 i n) := by
  unfold outAt
  rw [outC_apply]
  refine Finset.sum_congr rfl fun c' _ => ?_
  have e : inChunk (ix2 (⟨128 * b.val + i.val, by omega⟩ : Fin 256) n) = ix2 (⟨(128 * b.val + i.val) % 32, by omega⟩ : Fin 32) n := by
    funext a
    match a with
    | 0 => rfl
    | 1 => rfl
  rw [e, own_apply]
  have hb : (128 * b.val + i.val) / 32 / 4 = b.val := by omega
  have hi : 32 * ((128 * b.val + i.val) / 32 % 4) + (128 * b.val + i.val) % 32 = i.val := by omega
  have key : ∀ (b' : Fin 2) (i' : Fin 128), b' = b → i' = i → half (I c') b' (ix2 i' n) = half (I c') b (ix2 i n) := by
    rintro _ _ rfl rfl; rfl
  exact key _ _ (Fin.ext hb) (Fin.ext hi)

end Cert.KernelIdeal.Exchange

end
-- ==== Proof.Reference.lean ====
/-
# The reference's result, read at an index

The reference's term in stages — the mask, the scores, their row maximum, the weights, the contexts, the projection — and
each stage at an index.
-/
module

public import proofs.«01_k».proof.Proof.Gen.ReferenceIdeal.Run
public import proofs.«01_k».proof.Proof.Softmax
public import Idealize.ShloMosaic.Lib.Pointwise

@[expose] public section

set_option maxRecDepth 16384
set_option maxHeartbeats 2000000

noncomputable section

namespace Cert.ReferenceIdeal.Reading

open Cert.ReferenceIdeal Cert.ReferenceIdeal.Gen Cert.ReferenceIdeal.Facts
open Idealize.ShloMosaic

/-- Each position's block of 64. -/
def blockNo : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

/-- Where the column's block is not after the row's. -/
def see : IVec S128x128 1 :=
  cmpi .sle (broadcastInDim S128x128 ![0, 1] bcast_S1x128_S128x128_0_1 (broadcastInDim S1x128 ![1] bcast_S128_S1x128_1 blockNo))
    (broadcastInDim S128x128 ![0, 1] bcast_S128x1_S128x128_0_1 (broadcastInDim S128x1 ![0] bcast_S128_S128x1_0 blockNo))

/-- Which rows see some column. -/
def keep : IVec S128 1 := Host.reduce IntOp.ori see (constantI S_ 1 0#1) reducesTo_S128x128_S128_d1 h_S_

variable (x : FVec Ideal S2x128x512 .bf16) (wq : FVec Ideal S512x1024 .bf16) (k v : FVec Ideal S2x128x16x64 .bf16) (wo : FVec Ideal S1024x512 .bf16)

/-- The scores, scaled. -/
def score : FVec Ideal S2x16x128x128 .f32 :=
  mulf (extf .f32 (truncf .bf16 (Host.dotGeneral dot_S2x128x16x64_S2x128x16x64_S2x16x128x128_3_3_1_1_02_02 none
      (shapeCast S2x128x16x64 (truncf .bf16 (Host.dotGeneral dot_S2x128x512_S512x1024_S2x128x1024_2_0_01_1_n_n none x wq) bitsLt_bf16_f32)
        shapeCasts_S2x128x1024_S2x128x16x64) k) bitsLt_bf16_f32) bitsLt_bf16_f32)
    (broadcastInDim S2x16x128x128 ![] bcast_S_S2x16x128x128 (constant S_ .f32 0x3E000000#32))

/-- The scores, the unseen columns at the large negative constant. -/
def masked : FVec Ideal S2x16x128x128 .f32 :=
  select (broadcastInDim S2x16x128x128 ![0, 1, 2, 3] bcast_S1x1x128x128_S2x16x128x128_0_1_2_3
      (broadcastInDim S1x1x128x128 ![2, 3] bcast_S128x128_S1x1x128x128_2_3 see)) (score x wq k)
    (broadcastInDim S2x16x128x128 ![] bcast_S_S2x16x128x128 (id (constant S_ .f32 0xCE6E6B28#32)))

/-- Each row's greatest score. -/
def peak : FVec Ideal S2x16x128 .f32 :=
  Host.reduce FloatOps.maximumf (masked x wq k) (constant S_ .f32 0xFF800000#32) reducesTo_S2x16x128x128_S2x16x128_d3 h_S_

/-- The exponentials of the scores less their row's greatest. -/
def weight : FVec Ideal S2x16x128x128 .f32 :=
  Host.exp (subf (masked x wq k) (broadcastInDim S2x16x128x128 ![0, 1, 2, 3] bcast_S2x16x128x1_S2x16x128x128_0_1_2_3
    (broadcastInDim S2x16x128x1 ![0, 1, 2] bcast_S2x16x128_S2x16x128x1_0_1_2 (peak x wq k))))

/-- Each row's divisor: the sum of its exponentials. -/
def total : FVec Ideal S2x16x128x1 .f32 :=
  select (broadcastInDim S2x16x128x1 ![0, 1, 2, 3] bcast_S1x1x128x1_S2x16x128x1_0_1_2_3 (broadcastInDim S1x1x128x1 ![2] bcast_S128_S1x1x128x1_2 keep))
    (broadcastInDim S2x16x128x1 ![0, 1, 2] bcast_S2x16x128_S2x16x128x1_0_1_2
      (Host.reduceAdd (weight x wq k) (constant S_ .f32 0x00000000#32) reducesTo_S2x16x128x128_S2x16x128_d3 h_S_))
    (broadcastInDim S2x16x128x1 ![] bcast_S_S2x16x128x1 (id (constant S_ .f32 0x3F800000#32)))

/-- The attention weights. -/
def share : FVec Ideal S2x16x128x128 .f32 :=
  select (broadcastInDim S2x16x128x128 ![0, 1, 2, 3] bcast_S1x1x128x1_S2x16x128x128_0_1_2_3 (broadcastInDim S1x1x128x1 ![2] bcast_S128_S1x1x128x1_2 keep))
    (Host.divf (weight x wq k) (broadcastInDim S2x16x128x128 ![0, 1, 2, 3] bcast_S2x16x128x1_S2x16x128x128_0_1_2_3 (total x wq k)))
    (broadcastInDim S2x16x128x128 ![] bcast_S_S2x16x128x128 (id (constant S_ .f32 0x00000000#32)))

/-- The contexts, the heads side by side. -/
def context : FVec Ideal S2x128x1024 .f32 :=
  shapeCast S2x128x1024 (transpose S2x128x16x64 [0, 3, 1, 2] (Host.dotGeneral dot_S2x128x16x64_S2x16x128x128_S2x16x64x128_1_3_3_2_02_01 none
    (extf .f32 v bitsLt_bf16_f32) (share x wq k)) transposes_S2x16x64x128_S2x128x16x64_0_3_1_2) shapeCasts_S2x128x16x64_S2x128x1024

/-- The projected result. -/
def result : FVec Ideal S2x128x512 .bf16 :=
  truncf .bf16 (Host.dotGeneral dot_S2x128x1024_S1024x512_S2x128x512_2_0_01_1_n_n none (context x wq k v) (extf .f32 wo bitsLt_bf16_f32)) bitsLt_bf16_f32

/-- The reference's term is these, one after the other. -/
theorem res_eq (m : (ℓ : Loc nD τ sig) → Buf (Elt Ideal) ℓ) (c : Dev nD) :
    Value.res_main_v39 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The stages at an index -/

/-- The sign of a word read signed. -/
def signOf (n : BitVec 32) : BitVec 32 := if n = 0 then 0 else if n.msb = true then -1 else 1

/-- One position's block of 64, as the reference computes it. -/
def blockOf (n : BitVec 32) : BitVec 32 :=
  Scalar.select
    (IntOp.andi
      (IntOp.cmpi .ne (signOf n) (signOf 64#32))
      (IntOp.cmpi .ne (IntOp.remsi .host n 64#32) 0#32))
    (IntOp.subi (IntOp.divsi .host n 64#32) 1#32)
    (IntOp.divsi .host n 64#32)

theorem blockOf_eq (i : Fin 128) : blockOf (BitVec.ofNat 32 i.val) = BitVec.ofNat 32 (i.val / 64) := by
  revert i; decide

theorem sle_eq (a b : Fin 2) : IntOp.cmpi .sle (BitVec.ofNat 32 a.val) (BitVec.ofNat 32 b.val) = if a.val ≤ b.val then 1#1 else 0#1 := by
  revert a b; decide

theorem blockNo_apply (i : Fin 128) : blockNo (ix1 i) = BitVec.ofNat 32 (i.val / 64) := by
  rw [← blockOf_eq]
  unfold blockNo blockOf signOf
  pointwise
  rfl

theorem see_apply (i j : Fin 128) : see (ix2 i j) = if j.val / 64 ≤ i.val / 64 then 1#1 else 0#1 := by
  unfold see
  pointwise
  rw [blockNo_apply, blockNo_apply]
  exact sle_eq ⟨j.val / 64, by omega⟩ ⟨i.val / 64, by omega⟩

/-- Every row sees some column: the first. -/
theorem keep_apply (i : Fin 128) : keep (ix1 i) = 1#1 := by
  unfold keep
  pointwise
  have h0 : see (ix2 i 0) = 1#1 := by rw [see_apply]; exact if_pos (by simp)
  rw [← Finset.insert_erase (Finset.mem_univ (0 : Fin 128)), Finset.fold_insert (Finset.notMem_erase _ _), h0]
  generalize Finset.fold IntOp.ori (0#1) (fun j => see (ix2 i j)) (Finset.univ.erase 0) = y
  revert y; decide

theorem score_apply (b : Fin 2) (h : Fin 16) (i j : Fin 128) : score x wq k (ix4 b h i j)
    = (∑ e : Fin 64, (∑ t : Fin 512, x (ix3 b i t) * wq (ix2 t (⟨h.val * 64 + e.val, by omega⟩ : Fin 1024))) * k (ix4 b j h e))
        * Ideal.ofBits .f32 0x3E000000#32 := by
  unfold score
  pointwise

theorem masked_apply (b : Fin 2) (h : Fin 16) (i j : Fin 128) :
    masked x wq k (ix4 b h i j) = Scalar.select (see (ix2 i j)) (score x wq k (ix4 b h i j)) Softmax.far := by
  unfold masked
  pointwise
  rfl

theorem peak_apply (b : Fin 2) (h : Fin 16) (i : Fin 128) :
    peak x wq k (ix3 b h i) = Finset.univ.fold max ⊥ (fun j : Fin 128 => masked x wq k (ix4 b h i j)) := by
  unfold peak
  pointwise
  rw [Softmax.bot_f32]

theorem weight_apply (b : Fin 2) (h : Fin 16) (i j : Fin 128) :
    weight x wq k (ix4 b h i j) = Ideal.exp (masked x wq k (ix4 b h i j) - peak x wq k (ix3 b h i)) := by
  unfold weight
  pointwise

theorem total_apply (b : Fin 2) (h : Fin 16) (i : Fin 128) :
    total x wq k (ix4 b h i 0) = (∑ j : Fin 128, weight x wq k (ix4 b h i j) : EReal) := by
  unfold total
  pointwise
  rw [keep_apply, ValueIdx.select_one]

theorem share_apply (b : Fin 2) (h : Fin 16) (i j : Fin 128) :
    share x wq k (ix4 b h i j) = Ideal.div (weight x wq k (ix4 b h i j)) (total x wq k (ix4 b h i 0)) := by
  unfold share
  pointwise
  rw [keep_apply, ValueIdx.select_one]

/-- Column `n` of the contexts is column `n % 64` of head `n / 64`. -/
theorem context_apply (b : Fin 2) (i : Fin 128) (n : Fin 1024) : context x wq k v (ix3 b i n)
    = ∑ j : Fin 128, v (ix4 b j (⟨n.val / 64, by omega⟩ : Fin 16) (⟨n.val % 64, by omega⟩ : Fin 64))
        * share x wq k (ix4 b (⟨n.val / 64, by omega⟩ : Fin 16) i j) := by
  unfold context
  pointwise

theorem result_apply (b : Fin 2) (i : Fin 128) (n : Fin 512) :
    result x wq k v wo (ix3 b i n) = ∑ u : Fin 1024, context x wq k v (ix3 b i u) * wo (ix2 u n) := by
  unfold result
  pointwise

end Cert.ReferenceIdeal.Reading

end
-- ==== Proof.Agree.lean ====
/-
# The two programs agree

Device `c`'s head `h` is head `4 c + h` of the whole arrays: its exponents are the reference's masked scores there, its
context the reference's, and its share of the result the sum over its own 256 columns. The four shares add up to the
reference's sum over all 1024.
-/
module

public import proofs.«01_k».proof.Proof.Shards
public import proofs.«01_k».proof.Proof.Shares
public import proofs.«01_k».proof.Proof.Reference

@[expose] public section

set_option maxRecDepth 16384
set_option maxHeartbeats 2000000

noncomputable section

namespace Cert.KernelIdeal.Exchange

open Cert.KernelIdeal Cert.KernelIdeal.Gen Cert.KernelIdeal.Facts
open Idealize.ShloMosaic
open Idealize.ShloMosaic.TcCoe
open Cert.ReferenceIdeal.Reading Cert.Softmax

variable (m : (ℓ : Loc nD τ sig) → Buf (Elt Ideal) ℓ)
variable (X : FVec Ideal S2x128x512 .bf16) (Wq : FVec Ideal S512x1024 .bf16) (K V : FVec Ideal ReferenceIdeal.S2x128x16x64 .bf16)
  (Wo : FVec Ideal S1024x512 .bf16)

theorem dev_lt (c : Dev nD) : c.val < 4 := c.isLt

/-- Device `c`'s head `h` among all sixteen. -/
def headOf (c : Dev nD) (h : Fin 4) : Fin 16 := ⟨4 * c.val + h.val, by have := dev_lt c; omega⟩

/-- Device `c`'s column `u` among all 1024. -/
def colOf (c : Dev nD) (u : Fin 256) : Fin 1024 := ⟨256 * c.val + u.val, by have := dev_lt c; omega⟩

/-- Every device holds its part of the five whole arrays, and the arrays that the scores read are of real numbers. -/
structure Holds : Prop where
  x : ∀ c, argX m c = X
  wq : ∀ c, argWq m c = Wq
  k : ∀ c b j h e, argK m c (ix4 b j h e) = K (ix4 b j (headOf c h) e)
  v : ∀ c b j h e, argV m c (ix4 b j h e) = V (ix4 b j (headOf c h) e)
  wo : ∀ c, argWo m c = Wo
  x_real : ∀ y, IsReal (X y)
  wq_real : ∀ y, IsReal (Wq y)
  k_real : ∀ c b j h e, IsReal (K (ix4 b j (headOf c h) e))

variable {m X Wq K V Wo} (H : Holds m X Wq K V Wo)
include H

/-- Device `c`'s queries, with the factor 1/8 in the weights. -/
theorem Holds.query (c : Dev nD) (b : Fin 2) (h : Fin 4) (i : Fin 128) (e : Fin 64) :
    qhead (qrows (ins m c) b) h (ix2 i e)
      = ∑ t : Fin 512, X (ix3 b i t) * (Wq (ix2 t (⟨(headOf c h).val * 64 + e.val, by have := (headOf c h).isLt; omega⟩ : Fin 1024)) * ((1 / 8 : ℝ) : EReal)) := by
  rw [qhead_apply, qrows_apply]
  refine Finset.sum_congr rfl fun t _ => ?_
  rw [x_at, H.x, wq_at, H.wq, eighth_bf16]
  have e1 : (⟨256 * c.val + (64 * h.val + e.val), by have := dev_lt c; omega⟩ : Fin 1024)
      = ⟨(headOf c h).val * 64 + e.val, by have := (headOf c h).isLt; omega⟩ :=
    Fin.ext (by show 256 * c.val + (64 * h.val + e.val) = (4 * c.val + h.val) * 64 + e.val; omega)
  exact congrArg (fun n => X (ix3 b i t) * (Wq (ix2 t n) * ((1 / 8 : ℝ) : EReal))) e1

/-- The score of device `c`'s head `h` is the reference's of head `4 c + h`: the factor comes out of the sums. -/
theorem Holds.score (c : Dev nD) (b : Fin 2) (h : Fin 4) (i j : Fin 128) :
    (∑ e : Fin 64, qhead (qrows (ins m c) b) h (ix2 i e) * atR (rKV b h) (ins m c).k (ix4 0 j 0 e) : EReal)
      = ReferenceIdeal.Reading.score X Wq K (ix4 b (headOf c h) i j) := by
  rw [score_apply, eighth_f32, ← scale_eq _ _ _ _ (fun t => H.x_real _) (fun t e => H.wq_real _) (fun e => H.k_real c b j h e) (IsReal.coe _)]
  refine Finset.sum_congr rfl fun e _ => ?_
  rw [H.query, kv_at, k_eq, H.k]

theorem Holds.logit_eq (c : Dev nD) (b : Fin 2) (h : Fin 4) (i j : Fin 128) :
    logit (qhead (qrows (ins m c) b) h) (atR (rKV b h) (ins m c).k) i j = masked X Wq K (ix4 b (headOf c h) i j) := by
  rw [masked_apply, see_apply, ← H.score]
  unfold logit
  rw [mask_apply]

/-- The masked scores are real numbers. -/
theorem Holds.masked_real (c : Dev nD) (b : Fin 2) (h : Fin 4) (i j : Fin 128) : IsReal (masked X Wq K (ix4 b (headOf c h) i j)) := by
  rw [masked_apply, see_apply]
  split_ifs
  · rw [ValueIdx.select_one, score_apply, eighth_f32]
    exact (IsReal.product _ _ _ (fun t => H.x_real _) (fun t e => H.wq_real _) (fun e => H.k_real c b j h e)).mul (IsReal.coe _)
  · rw [ValueIdx.select_zero]
    exact IsReal.far

/-- **A head's context** is the reference's. -/
theorem Holds.head_eq (c : Dev nD) (b : Fin 2) (h : Fin 4) (i : Fin 128) (d : Fin 64) :
    ctx (ins m c) b h (ix2 i d)
      = (∑ j : Fin 128, V (ix4 b j (headOf c h) d) * share X Wq K (ix4 b (headOf c h) i j) : EReal) := by
  unfold ctx
  rw [attend_apply]
  have hv : ∀ j : Fin 128, atR (rKV b h) (ins m c).v (ix4 0 j 0 d) = V (ix4 b j (headOf c h) d) := fun j => by rw [kv_at, v_eq, H.v]
  simp only [H.logit_eq, hv, share_apply, weight_apply, total_apply]
  refine mean_eq (n := 127) _ _ _ (fun j => H.masked_real c b h i j) ?_
  rw [peak_apply]
  exact IsReal.fold_max (n := 127) _ fun j => H.masked_real c b h i j

/-- **A device's share** of the result: the sum over its own columns. -/
theorem Holds.half_eq (c : Dev nD) (b : Fin 2) (i : Fin 128) (n : Fin 512) :
    half (ins m c) b (ix2 i n) = (∑ u : Fin 256, context X Wq K V (ix3 b i (colOf c u)) * Wo (ix2 (colOf c u) n) : EReal) := by
  rw [half_apply]
  refine Finset.sum_congr rfl fun u _ => ?_
  rw [wo_at, H.wo]
  refine congrArg (· * Wo (ix2 (colOf c u) n)) ?_
  have eu : u = ⟨64 * (u.val / 64) + u.val % 64, by omega⟩ := Fin.ext (by show u.val = 64 * (u.val / 64) + u.val % 64; omega)
  have eh : (⟨(colOf c u).val / 64, by have := (colOf c u).isLt; omega⟩ : Fin 16) = headOf c ⟨u.val / 64, by omega⟩ :=
    Fin.ext (by show (256 * c.val + u.val) / 64 = 4 * c.val + u.val / 64; omega)
  have ed : (⟨(colOf c u).val % 64, by omega⟩ : Fin 64) = ⟨u.val % 64, by omega⟩ :=
    Fin.ext (by show (256 * c.val + u.val) % 64 = u.val % 64; omega)
  rw [context_apply, eh, ed, ← H.head_eq c b ⟨u.val / 64, by omega⟩ i ⟨u.val % 64, by omega⟩,
    ← ctxs_apply (ins m c) b i ⟨u.val / 64, by omega⟩ ⟨u.val % 64, by omega⟩]
  exact congrArg (fun w => ctxs (ins m c) b (ix2 i w)) eu

omit H in
/-- A sum over 1024 columns is the sum over the devices of the sums over their own. -/
theorem sum_columns (f : Fin 1024 → EReal) : ∑ u : Fin 1024, f u = ∑ c : Dev nD, ∑ u : Fin 256, f (colOf c u) := by
  rw [← Fintype.sum_prod_type', ← (finProdFinEquiv (m := 4) (n := 256)).sum_comp f]
  refine Fintype.sum_congr _ _ fun p => congrArg f (Fin.ext ?_)
  show p.2.val + 256 * p.1.val = 256 * p.1.val + p.2.val
  omega

/-- **Every device ends with the reference's result.** -/
theorem Holds.result_eq (c : Dev nD) : V3 m (outs m) c main_v19 = result X Wq K V Wo := by
  rw [out_eq]
  have key : ∀ (b : Fin 2) (i : Fin 128) (n : Fin 512),
      shapeCast S2x128x512 (outAt (ins m) c) shapeCasts_S256x512_S2x128x512 (ix3 b i n) = result X Wq K V Wo (ix3 b i n) := fun b i n => by
    rw [castO_apply, outAt_apply, result_apply, sum_columns]
    exact Finset.sum_congr rfl fun c' _ => H.half_eq c' b i n
  funext y
  have ey : y = ix3 (y 0) (y 1) (y 2) := ValueIdx.eq_ix3 y
  rw [ey]
  exact key (y 0) (y 1) (y 2)

end Cert.KernelIdeal.Exchange

end
-- ==== Proof.Finite.lean ====
/-
# The precondition, read at an entry

`finite_scores` compares the size of every entry of `x`, `Wq` and the device's block of `K_ext` with infinity: where it is
all ones, the entries are real numbers.
-/
module

public import proofs.«01_k».proof.Defs
public import proofs.«01_k».proof.Proof.Softmax
public import Idealize.ShloMosaic.Lib.Pointwise

@[expose] public section

set_option maxRecDepth 16384

noncomputable section

namespace Cert.Pre_finite_scores_KernelIdeal

open Idealize.ShloMosaic

instance facts : Facts := ⟨by decide, by decide, by decide, by decide⟩

/-- An entry whose size compares below infinity is a real number. -/
theorem real_of_below {a : EReal} (h : Ideal.cmp .olt (max a (-a)) (Ideal.ofBits .f32 0x7F800000#32) = 1#1) : Softmax.IsReal a := by
  rw [Softmax.top_f32] at h
  exact Softmax.IsReal.of_abs ((Ideal.cmp_olt_eq_one _ _).mp h)

variable (x : FVec Ideal S2x128x512 .bf16) (wq : FVec Ideal S512x1024 .bf16) (k v : FVec Ideal S2x128x4x64 .bf16) (wo : FVec Ideal S1024x512 .bf16)

theorem x_real (h : (fn x wq k v wo).1 = fun _ => 1#1) (y : S2x128x512.Idx) : Softmax.IsReal (x y) := real_of_below (congrFun h y)
theorem wq_real (h : (fn x wq k v wo).2.1 = fun _ => 1#1) (y : S512x1024.Idx) : Softmax.IsReal (wq y) := real_of_below (congrFun h y)
theorem k_real (h : (fn x wq k v wo).2.2 = fun _ => 1#1) (y : S2x128x4x64.Idx) : Softmax.IsReal (k y) := real_of_below (congrFun h y)

end Cert.Pre_finite_scores_KernelIdeal

namespace Cert.Pre_finite_scores_ReferenceIdeal

instance facts : Facts := ⟨by decide, by decide, by decide, by decide⟩

end Cert.Pre_finite_scores_ReferenceIdeal

end
-- ==== Proof.Algebra.lean ====
/-
# The kernel computes the reference's mathematics

From memories that hold one set of arrays, the kernel on four devices and the reference on one both run; every device
ends with the reference's result.
-/
module

public import proofs.«01_k».proof.Proof.Agree
public import proofs.«01_k».proof.Proof.Finite
public import Idealize.ShloMosaic.Lib.Layout

@[expose] public section

set_option maxRecDepth 16384
set_option maxHeartbeats 2000000

noncomputable section

namespace Cert.Proof

open Idealize.ShloMosaic Idealize.SL.Sem
open Cert.KernelIdeal.Exchange

/-- An entry of device `c`'s block of the heads is the whole array's at head `4 c + h`. -/
theorem block_at (c : Dev Cert.KernelIdeal.nD) (A : (⟨4, ![2, 128, 16, 64]⟩ : Shape).Idx → EReal) (b : Fin 2) (j : Fin 128) (h : Fin 4) (e : Fin 64) :
    Layout.block ⟨4, ![2, 128, 4, 64]⟩ ⟨4, ![2, 128, 16, 64]⟩ 2 4 c A (by decide) (ix4 b j h e) = A (ix4 b j (headOf c h) e) := by
  rw [Layout.block_apply]
  refine congrArg A ?_
  funext a
  apply Fin.ext
  rw [Layout.Tiles.idx_val]
  match a with
  | 0 => rfl
  | 1 => rfl
  | 2 => show c.val * 4 + h.val = 4 * c.val + h.val; omega
  | 3 => rfl

/-- The kernel's result on every device is the reference's. -/
theorem algebraic : Cert.algebraic_KernelIdeal_ReferenceIdeal_pre_finite_scores_KernelIdeal := by
  intro m g m' g' pre same
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    have hk : ∀ c b j h e, argK m c (ix4 b j h e)
        = m' (((0 : Dev Cert.ReferenceIdeal.nD).tc : Thread Cert.ReferenceIdeal.nD Cert.ReferenceIdeal.τ).loc Cert.ReferenceIdeal.main_arg2) (ix4 b j (headOf c h) e) :=
      fun c b j h e => (congrFun (same c).2.2.1 (ix4 b j h e)).trans (block_at c _ b j h e)
    exact {
      x := fun c => (same c).1
      wq := fun c => (same c).2.1
      k := hk
      v := fun c b j h e => (congrFun (same c).2.2.2.1 (ix4 b j h e)).trans (block_at c _ b j h e)
      wo := fun c => (same c).2.2.2.2
      x_real := fun y => by
        rw [← (same 0).1]
        exact Cert.Pre_finite_scores_KernelIdeal.x_real _ _ _ _ _ (pre 0).1 y
      wq_real := fun y => by
        rw [← (same 0).2.1]
        exact Cert.Pre_finite_scores_KernelIdeal.wq_real _ _ _ _ _ (pre 0).2.1 y
      k_real := fun c b j h e => by
        rw [← hk c b j h e]
        exact Cert.Pre_finite_scores_KernelIdeal.k_real _ _ _ _ _ (pre c).2.2 (ix4 b j h e) }
  refine ⟨Cert.ReferenceIdeal.Value.res_main_v39 m' 0, ?_, ?_⟩
  · refine (θ_run Cert.KernelIdeal.defs _ _).mono (fun r h c => ⟨?_, (h.1 c).1⟩) (run_main (F := Ideal) m g)
    rw [Cert.ReferenceIdeal.Reading.res_eq]
    exact (h.1 c).2.trans (H.result_eq c)
  · exact (θ_run Cert.ReferenceIdeal.defs _ _).mono (fun r h => h 0) (Cert.ReferenceIdeal.Value.run (F := Ideal) m' g')

end Cert.Proof

end
-- ==== Proof.lean ====
/-
# The certificate

Puts the claims together from the modules under `Proof/`: the frames of the three programs from `Frames`,
the algebraic claim from `Algebra`, and the precondition's side conditions from `Finite`.
-/
module

public import proofs.«01_k».proof.Proof.Frames
public import proofs.«01_k».proof.Proof.Algebra
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.facts, Cert.Pre_finite_scores_ReferenceIdeal.facts,
  frame_kernel, frame_ideal, fun m ρ _ => frame_ideal m ρ trivial, frame_reference, fun m ρ _ => frame_reference m ρ trivial,
  trivial, algebraic⟩

end Cert.Proof

end
